-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S8 : Shape := ⟨1, ![8]⟩
abbrev S1x8 : Shape := ⟨2, ![1, 8]⟩
abbrev S_ : Shape := ⟨0, ![]⟩
abbrev S256x8 : Shape := ⟨2, ![256, 8]⟩

class Facts : Prop where
  bcast_S8_S1x8_1 : S8.BroadcastsInDim S1x8 (![1] : Fin 1 → Fin S1x8.rank)
  bcast_S_S1x8 : S_.BroadcastsInDim S1x8 (![] : Fin 0 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  natLt_1_32 : 1 < 32
  reducesTo_S256x8_S8_d0 : S256x8.ReducesTo [0] S8
  h_S_ : 0 < S_.numel
  bcast_S_S256x1 : S_.BroadcastsInDim S256x1 (![] : Fin 0 → Fin S256x1.rank)
  bcast_S_S8 : S_.BroadcastsInDim S8 (![] : Fin 0 → Fin S8.rank)

variable [Facts]

def fn_part1 {F : FTy → Type} [FloatOps F] (main_v14 : IVec S8 32) (main_v16 : IVec S256x1 1) (main_v18 : IVec S256x1 1) : IVec S256x1 1 × IVec S8 1 :=
  let main_v19 : IVec S256x1 1 := andi main_v16 main_v18
  let main_c_4 : IVec S_ 32 := constantI S_ 32 64#32
  let main_v20 : IVec S8 32 := broadcastInDim S8 ![] bcast_S_S8 main_c_4
  let main_v21 : IVec S8 1 := cmpi .sle main_v14 main_v20
  (main_v19, main_v21)

def fn {F : FTy → Type} [FloatOps F] (main_arg0 : FVec F S256x128 .f32) (main_arg1 : FVec F S128x16 .f32) (main_arg2 : IVec S256x1 32) (main_arg3 : FVec F S2x128x256 .f32) : IVec S256x1 1 × IVec S8 1 :=
  let main_v0 : IVec S8 32 := iotaInDim S8 32 0
  let main_v1 : IVec S1x8 32 := broadcastInDim S1x8 ![1] bcast_S8_S1x8_1 main_v0
  let main_c : IVec S_ 32 := constantI S_ 32 2#32
  let main_v2 : IVec S1x8 32 := broadcastInDim S1x8 ![] bcast_S_S1x8 main_c
  let main_v3 : IVec S1x8 32 := muli main_v2 main_v1
  let main_v4 : IVec S256x8 32 := broadcastInDim S256x8 ![0, 1] bcast_S256x1_S256x8_0_1 main_arg2
  let main_v5 : IVec S256x8 32 := broadcastInDim S256x8 ![0, 1] bcast_S1x8_S256x8_0_1 main_v3
  let main_v6 : IVec S256x8 1 := cmpi .eq main_v4 main_v5
  let main_c_0 : IVec S_ 32 := constantI S_ 32 1#32
  let main_v7 : IVec S1x8 32 := broadcastInDim S1x8 ![] bcast_S_S1x8 main_c_0
  let main_v8 : IVec S1x8 32 := addi main_v3 main_v7
  let main_v9 : IVec S256x8 32 := broadcastInDim S256x8 ![0, 1] bcast_S256x1_S256x8_0_1 main_arg2
  let main_v10 : IVec S256x8 32 := broadcastInDim S256x8 ![0, 1] bcast_S1x8_S256x8_0_1 main_v8
  let main_v11 : IVec S256x8 1 := cmpi .eq main_v9 main_v10
  let main_v12 : IVec S256x8 1 := ori main_v6 main_v11
  let main_v13 : IVec S256x8 32 := (extui 32 · natLt_1_32) main_v12
  let main_c_1 : IVec S_ 32 := constantI S_ 32 0#32
  let main_v14 : IVec S8 32 := (fun x v => Host.reduce IntOp.addi x v reducesTo_S256x8_S8_d0 h_S_) main_v13 main_c_1
  let main_c_2 : IVec S_ 32 := constantI S_ 32 0#32
  let main_v15 : IVec S256x1 32 := broadcastInDim S256x1 ![] bcast_S_S256x1 main_c_2
  let main_v16 : IVec S256x1 1 := cmpi .sge main_arg2 main_v15
  let main_c_3 : IVec S_ 32 := constantI S_ 32 16#32
  let main_v17 : IVec S256x1 32 := broadcastInDim S256x1 ![] bcast_S_S256x1 main_c_3
  let main_v18 : IVec S256x1 1 := cmpi .slt main_arg2 main_v17
  fn_part1 (F := F) main_v14 main_v16 main_v18
-- ==== Pre_routed_ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S8 : Shape := ⟨1, ![8]⟩
abbrev S1x8 : Shape := ⟨2, ![1, 8]⟩
abbrev S_ : Shape := ⟨0, ![]⟩
abbrev S256x8 : Shape := ⟨2, ![256, 8]⟩

class Facts : Prop where
  bcast_S8_S1x8_1 : S8.BroadcastsInDim S1x8 (![1] : Fin 1 → Fin S1x8.rank)
  bcast_S_S1x8 : S_.BroadcastsInDim S1x8 (![] : Fin 0 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  natLt_1_32 : 1 < 32
  reducesTo_S256x8_S8_d0 : S256x8.ReducesTo [0] S8
  h_S_ : 0 < S_.numel
  bcast_S_S256x1 : S_.BroadcastsInDim S256x1 (![] : Fin 0 → Fin S256x1.rank)
  bcast_S_S8 : S_.BroadcastsInDim S8 (![] : Fin 0 → Fin S8.rank)

variable [Facts]

def fn_part1 {F : FTy → Type} [FloatOps F] (main_v14 : IVec S8 32) (main_v16 : IVec S256x1 1) (main_v18 : IVec S256x1 1) : IVec S256x1 1 × IVec S8 1 :=
  let main_v19 : IVec S256x1 1 := andi main_v16 main_v18
  let main_c_4 : IVec S_ 32 := constantI S_ 32 64#32
  let main_v20 : IVec S8 32 := broadcastInDim S8 ![] bcast_S_S8 main_c_4
  let main_v21 : IVec S8 1 := cmpi .sle main_v14 main_v20
  (main_v19, main_v21)

def fn {F : FTy → Type} [FloatOps F] (main_arg0 : FVec F S256x128 .f32) (main_arg1 : FVec F S128x16 .f32) (main_arg2 : IVec S256x1 32) (main_arg3 : FVec F S16x128x256 .f32) : IVec S256x1 1 × IVec S8 1 :=
  let main_v0 : IVec S8 32 := iotaInDim S8 32 0
  let main_v1 : IVec S1x8 32 := broadcastInDim S1x8 ![1] bcast_S8_S1x8_1 main_v0
  let main_c : IVec S_ 32 := constantI S_ 32 2#32
  let main_v2 : IVec S1x8 32 := broadcastInDim S1x8 ![] bcast_S_S1x8 main_c
  let main_v3 : IVec S1x8 32 := muli main_v2 main_v1
  let main_v4 : IVec S256x8 32 := broadcastInDim S256x8 ![0, 1] bcast_S256x1_S256x8_0_1 main_arg2
  let main_v5 : IVec S256x8 32 := broadcastInDim S256x8 ![0, 1] bcast_S1x8_S256x8_0_1 main_v3
  let main_v6 : IVec S256x8 1 := cmpi .eq main_v4 main_v5
  let main_c_0 : IVec S_ 32 := constantI S_ 32 1#32
  let main_v7 : IVec S1x8 32 := broadcastInDim S1x8 ![] bcast_S_S1x8 main_c_0
  let main_v8 : IVec S1x8 32 := addi main_v3 main_v7
  let main_v9 : IVec S256x8 32 := broadcastInDim S256x8 ![0, 1] bcast_S256x1_S256x8_0_1 main_arg2
  let main_v10 : IVec S256x8 32 := broadcastInDim S256x8 ![0, 1] bcast_S1x8_S256x8_0_1 main_v8
  let main_v11 : IVec S256x8 1 := cmpi .eq main_v9 main_v10
  let main_v12 : IVec S256x8 1 := ori main_v6 main_v11
  let main_v13 : IVec S256x8 32 := (extui 32 · natLt_1_32) main_v12
  let main_c_1 : IVec S_ 32 := constantI S_ 32 0#32
  let main_v14 : IVec S8 32 := (fun x v => Host.reduce IntOp.addi x v reducesTo_S256x8_S8_d0 h_S_) main_v13 main_c_1
  let main_c_2 : IVec S_ 32 := constantI S_ 32 0#32
  let main_v15 : IVec S256x1 32 := broadcastInDim S256x1 ![] bcast_S_S256x1 main_c_2
  let main_v16 : IVec S256x1 1 := cmpi .sge main_arg2 main_v15
  let main_c_3 : IVec S_ 32 := constantI S_ 32 16#32
  let main_v17 : IVec S256x1 32 := broadcastInDim S256x1 ![] bcast_S_S256x1 main_c_3
  let main_v18 : IVec S256x1 1 := cmpi .slt main_arg2 main_v17
  fn_part1 (F := F) main_v14 main_v16 main_v18
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S256x256 : Shape := ⟨2, ![256, 256]⟩
abbrev S8x64x256 : Shape := ⟨3, ![8, 64, 256]⟩
abbrev S256x512 : Shape := ⟨2, ![256, 512]⟩
abbrev S7 : Shape := ⟨1, ![7]⟩
abbrev S_ : Shape := ⟨0, ![]⟩
abbrev S256x64 : Shape := ⟨2, ![256, 64]⟩
abbrev S64x128 : Shape := ⟨2, ![64, 128]⟩
abbrev S64x1 : Shape := ⟨2, ![64, 1]⟩
abbrev S1x128x256 : Shape := ⟨3, ![1, 128, 256]⟩
abbrev S128x256 : Shape := ⟨2, ![128, 256]⟩
abbrev S64x256 : Shape := ⟨2, ![64, 256]⟩
abbrev S1x64x256 : Shape := ⟨3, ![1, 64, 256]⟩
abbrev S1 : Shape := ⟨1, ![1]⟩
abbrev S256x8 : Shape := ⟨2, ![256, 8]⟩
abbrev S512x256 : Shape := ⟨2, ![512, 256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S8x64x256, .bf16⟩
  | .local _ .vmem, ⟨5, _⟩ => ⟨S256x512, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v174 : Index := Scalar.indexCast v2
  let c0_93 : Index := 0#32
  let c0_94 : Index := 0#32
  ![v174.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_107 : BitVec 32 := 0#32
  let c0_i32_108 : BitVec 32 := 0#32
  ![v2.toNat, 0, 0]
def k0_dev8 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_96 : BitVec 32 := 1#32
  let v178 : BitVec 32 := Scalar.addi v2 c1_i32_96
  let c8_i32_97 : BitVec 32 := 8#32
  let c0_i32_98 : BitVec 32 := 0#32
  let v179 : BitVec 1 := Scalar.cmpi .eq c8_i32_97 c0_i32_98
  let c1_i32_99 : BitVec 32 := 1#32
  let v180 : BitVec 32 := Scalar.select v179 c1_i32_99 c8_i32_97
  let v181 : BitVec 32 := Scalar.remsi v178 v180
  let c0_i32_101 : BitVec 32 := 0#32
  let v183 : BitVec 1 := Scalar.cmpi .slt v181 c0_i32_101
  let c0_i32_102 : BitVec 32 := 0#32
  let v184 : BitVec 1 := Scalar.cmpi .slt v180 c0_i32_102
  let v185 : BitVec 1 := Scalar.xori v183 v184
  let c0_i32_100 : BitVec 32 := 0#32
  let v182 : BitVec 1 := Scalar.cmpi .ne v181 c0_i32_100
  let v186 : BitVec 1 := Scalar.andi v185 v182
  let v187 : BitVec 32 := Scalar.addi v181 v180
  let v188 : BitVec 32 := Scalar.select v186 v187 v181
  let c1_i32_105 : BitVec 32 := 1#32
  let v189 : BitVec 32 := Scalar.muli v188 c1_i32_105
  let v190 : BitVec 32 := Scalar.addi c0_i32_106 v189
  v190.toNat
def k0_dev9 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v199 : BitVec 32 := Scalar.addi v2 c2_i32_111
  let c8_i32_112 : BitVec 32 := 8#32
  let c0_i32_113 : BitVec 32 := 0#32
  let v200 : BitVec 1 := Scalar.cmpi .eq c8_i32_112 c0_i32_113
  let c1_i32_114 : BitVec 32 := 1#32
  let v201 : BitVec 32 := Scalar.select v200 c1_i32_114 c8_i32_112
  let v202 : BitVec 32 := Scalar.remsi v199 v201
  let c0_i32_116 : BitVec 32 := 0#32
  let v204 : BitVec 1 := Scalar.cmpi .slt v202 c0_i32_116
  let c0_i32_117 : BitVec 32 := 0#32
  let v205 : BitVec 1 := Scalar.cmpi .slt v201 c0_i32_117
  let v206 : BitVec 1 := Scalar.xori v204 v205
  let c0_i32_115 : BitVec 32 := 0#32
  let v203 : BitVec 1 := Scalar.cmpi .ne v202 c0_i32_115
  let v207 : BitVec 1 := Scalar.andi v206 v203
  let v208 : BitVec 32 := Scalar.addi v202 v201
  let v209 : BitVec 32 := Scalar.select v207 v208 v202
  let c1_i32_120 : BitVec 32 := 1#32
  let v210 : BitVec 32 := Scalar.muli v209 c1_i32_120
  let v211 : BitVec 32 := Scalar.addi c0_i32_121 v210
  v211.toNat
def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v220 : BitVec 32 := Scalar.addi v2 c3_i32_126
  let c8_i32_127 : BitVec 32 := 8#32
  let c0_i32_128 : BitVec 32 := 0#32
  let v221 : BitVec 1 := Scalar.cmpi .eq c8_i32_127 c0_i32_128
  let c1_i32_129 : BitVec 32 := 1#32
  let v222 : BitVec 32 := Scalar.select v221 c1_i32_129 c8_i32_127
  let v223 : BitVec 32 := Scalar.remsi v220 v222
  let c0_i32_131 : BitVec 32 := 0#32
  let v225 : BitVec 1 := Scalar.cmpi .slt v223 c0_i32_131
  let c0_i32_132 : BitVec 32 := 0#32
  let v226 : BitVec 1 := Scalar.cmpi .slt v222 c0_i32_132
  let v227 : BitVec 1 := Scalar.xori v225 v226
  let c0_i32_130 : BitVec 32 := 0#32
  let v224 : BitVec 1 := Scalar.cmpi .ne v223 c0_i32_130
  let v228 : BitVec 1 := Scalar.andi v227 v224
  let v229 : BitVec 32 := Scalar.addi v223 v222
  let v230 : BitVec 32 := Scalar.select v228 v229 v223
  let c1_i32_135 : BitVec 32 := 1#32
  let v231 : BitVec 32 := Scalar.muli v230 c1_i32_135
  let v232 : BitVec 32 := Scalar.addi c0_i32_136 v231
  v232.toNat
def k0_dev11 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_141 : BitVec 32 := 4#32
  let v241 : BitVec 32 := Scalar.addi v2 c4_i32_141
  let c8_i32_142 : BitVec 32 := 8#32
  let c0_i32_143 : BitVec 32 := 0#32
  let v242 : BitVec 1 := Scalar.cmpi .eq c8_i32_142 c0_i32_143
  let c1_i32_144 : BitVec 32 := 1#32
  let v243 : BitVec 32 := Scalar.select v242 c1_i32_144 c8_i32_142
  let v244 : BitVec 32 := Scalar.remsi v241 v243
  let c0_i32_146 : BitVec 32 := 0#32
  let v246 : BitVec 1 := Scalar.cmpi .slt v244 c0_i32_146
  let c0_i32_147 : BitVec 32 := 0#32
  let v247 : BitVec 1 := Scalar.cmpi .slt v243 c0_i32_147
  let v248 : BitVec 1 := Scalar.xori v246 v247
  let c0_i32_145 : BitVec 32 := 0#32
  let v245 : BitVec 1 := Scalar.cmpi .ne v244 c0_i32_145
  let v249 : BitVec 1 := Scalar.andi v248 v245
  let v250 : BitVec 32 := Scalar.addi v244 v243
  let v251 : BitVec 32 := Scalar.select v249 v250 v244
  let c1_i32_150 : BitVec 32 := 1#32
  let v252 : BitVec 32 := Scalar.muli v251 c1_i32_150
  let v253 : BitVec 32 := Scalar.addi c0_i32_151 v252
  v253.toNat
def k0_dev12 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_156 : BitVec 32 := 5#32
  let v262 : BitVec 32 := Scalar.addi v2 c5_i32_156
  let c8_i32_157 : BitVec 32 := 8#32
  let c0_i32_158 : BitVec 32 := 0#32
  let v263 : BitVec 1 := Scalar.cmpi .eq c8_i32_157 c0_i32_158
  let c1_i32_159 : BitVec 32 := 1#32
  let v264 : BitVec 32 := Scalar.select v263 c1_i32_159 c8_i32_157
  let v265 : BitVec 32 := Scalar.remsi v262 v264
  let c0_i32_161 : BitVec 32 := 0#32
  let v267 : BitVec 1 := Scalar.cmpi .slt v265 c0_i32_161
  let c0_i32_162 : BitVec 32 := 0#32
  let v268 : BitVec 1 := Scalar.cmpi .slt v264 c0_i32_162
  let v269 : BitVec 1 := Scalar.xori v267 v268
  let c0_i32_160 : BitVec 32 := 0#32
  let v266 : BitVec 1 := Scalar.cmpi .ne v265 c0_i32_160
  let v270 : BitVec 1 := Scalar.andi v269 v266
  let v271 : BitVec 32 := Scalar.addi v265 v264
  let v272 : BitVec 32 := Scalar.select v270 v271 v265
  let c1_i32_165 : BitVec 32 := 1#32
  let v273 : BitVec 32 := Scalar.muli v272 c1_i32_165
  let v274 : BitVec 32 := Scalar.addi c0_i32_166 v273
  v274.toNat
def k0_dev13 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_171 : BitVec 32 := 6#32
  let v283 : BitVec 32 := Scalar.addi v2 c6_i32_171
  let c8_i32_172 : BitVec 32 := 8#32
  let c0_i32_173 : BitVec 32 := 0#32
  let v284 : BitVec 1 := Scalar.cmpi .eq c8_i32_172 c0_i32_173
  let c1_i32_174 : BitVec 32 := 1#32
  let v285 : BitVec 32 := Scalar.select v284 c1_i32_174 c8_i32_172
  let v286 : BitVec 32 := Scalar.remsi v283 v285
  let c0_i32_176 : BitVec 32 := 0#32
  let v288 : BitVec 1 := Scalar.cmpi .slt v286 c0_i32_176
  let c0_i32_177 : BitVec 32 := 0#32
  let v289 : BitVec 1 := Scalar.cmpi .slt v285 c0_i32_177
  let v290 : BitVec 1 := Scalar.xori v288 v289
  let c0_i32_175 : BitVec 32 := 0#32
  let v287 : BitVec 1 := Scalar.cmpi .ne v286 c0_i32_175
  let v291 : BitVec 1 := Scalar.andi v290 v287
  let v292 : BitVec 32 := Scalar.addi v286 v285
  let v293 : BitVec 32 := Scalar.select v291 v292 v286
  let c1_i32_180 : BitVec 32 := 1#32
  let v294 : BitVec 32 := Scalar.muli v293 c1_i32_180
  let v295 : BitVec 32 := Scalar.addi c0_i32_181 v294
  v295.toNat
def k0_dev14 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_186 : BitVec 32 := 7#32
  let v304 : BitVec 32 := Scalar.addi v2 c7_i32_186
  let c8_i32_187 : BitVec 32 := 8#32
  let c0_i32_188 : BitVec 32 := 0#32
  let v305 : BitVec 1 := Scalar.cmpi .eq c8_i32_187 c0_i32_188
  let c1_i32_189 : BitVec 32 := 1#32
  let v306 : BitVec 32 := Scalar.select v305 c1_i32_189 c8_i32_187
  let v307 : BitVec 32 := Scalar.remsi v304 v306
  let c0_i32_191 : BitVec 32 := 0#32
  let v309 : BitVec 1 := Scalar.cmpi .slt v307 c0_i32_191
  let c0_i32_192 : BitVec 32 := 0#32
  let v310 : BitVec 1 := Scalar.cmpi .slt v306 c0_i32_192
  let v311 : BitVec 1 := Scalar.xori v309 v310
  let c0_i32_190 : BitVec 32 := 0#32
  let v308 : BitVec 1 := Scalar.cmpi .ne v307 c0_i32_190
  let v312 : BitVec 1 := Scalar.andi v311 v308
  let v313 : BitVec 32 := Scalar.addi v307 v306
  let v314 : BitVec 32 := Scalar.select v312 v313 v307
  let c1_i32_195 : BitVec 32 := 1#32
  let v315 : BitVec 32 := Scalar.muli v314 c1_i32_195
  let v316 : BitVec 32 := Scalar.addi c0_i32_196 v315
  v316.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S256 : Shape := ⟨1, ![256]⟩
abbrev S_ : Shape := ⟨0, ![]⟩
abbrev S256x128x256 : Shape := ⟨3, ![256, 128, 256]⟩
abbrev S256x256 : Shape := ⟨2, ![256, 256]⟩

abbrev nBuf : Space → Nat
  | .hbm => 15
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S16x128x256, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256x128x256, .f32⟩
  | .hbm, ⟨14, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Proto.lean ====
/-
The expert-dispatch exchange on eight devices: names and schedule.

Every device packs the rows of `x` whose expert it holds, applies the expert's weights, keeps the packed
block in its own slot of the stage buffer and sends that slot to the seven other devices. Before sending,
each device tells the seven others, through the barrier semaphore, that its stage buffer may be written: its
signal to device `p` hands over its slot `p`. A device's barrier wait for seven thus brings it its own slot
on every other device, into which its seven transfers write.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.ValueIdxCore
public import Idealize.ShloMosaic.Lib.Tactic

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's own and the exchange's, whose duties are named by the seven offsets -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who talks to whom -/

set_option backward.proofsInPublic true in
/-- The device `j + 1` places after `c`. -/
def peer (c : Dev nD) (j : Fin 7) : Dev nD := ⟨(c.val + j.val + 1) % 8, Nat.mod_lt _ (by decide)⟩
set_option backward.proofsInPublic true in
/-- The device `j + 1` places before `c`. -/
def orig (c : Dev nD) (j : Fin 7) : Dev nD := ⟨(c.val + 7 - j.val) % 8, Nat.mod_lt _ (by decide)⟩

theorem peer_orig : ∀ (j : Fin 7) (c : Dev nD), peer (orig c j) j = c := by decide
theorem orig_peer : ∀ (j : Fin 7) (c : Dev nD), orig (peer c j) j = c := by decide
theorem peer_back : ∀ (j : Fin 7) (c : Dev nD), peer (peer c j) j.rev = c := by decide
theorem peer_ne : ∀ (j : Fin 7) (c : Dev nD), peer c j ≠ c := by decide

/-- The seven offsets in program order. -/
abbrev offs : List (Fin 7) := [0, 1, 2, 3, 4, 5, 6]

theorem devs_peer : ∀ c : Dev nD, (Finset.univ : Finset (Dev nD)) = (c :: offs.map (peer c)).toFinset ∧ (c :: offs.map (peer c)).Nodup := by decide
theorem devs_orig : ∀ c : Dev nD, (Finset.univ : Finset (Dev nD)) = (c :: offs.map (orig c)).toFinset ∧ (c :: offs.map (orig c)).Nodup := by decide

/-! The program's peer computations. -/
theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 0 := by decide +kernel
theorem dev9_eq : ∀ c : Dev nD, (⟨k0_dev9 c, k0_dev9_lt c⟩ : Dev nD) = peer c 1 := by decide +kernel
theorem dev10_eq : ∀ c : Dev nD, (⟨k0_dev10 c, k0_dev10_lt c⟩ : Dev nD) = peer c 2 := by decide +kernel
theorem dev11_eq : ∀ c : Dev nD, (⟨k0_dev11 c, k0_dev11_lt c⟩ : Dev nD) = peer c 3 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 5 := by decide +kernel
theorem dev14_eq : ∀ c : Dev nD, (⟨k0_dev14 c, k0_dev14_lt c⟩ : Dev nD) = peer c 6 := by decide +kernel

/-! ## Buffers and semaphores -/

abbrev xM : Memref sig .tc .vmem S256x128 .f32 := Memref.whole cc0_stg0_0
abbrev iM : Memref sig .tc .vmem S256x1 .i32 := Memref.whole cc0_stg1_0
abbrev wM : Memref sig .tc .vmem S2x128x256 .f32 := Memref.whole cc0_stg2_0
abbrev oM : Memref sig .tc .vmem S256x256 .f32 := Memref.whole cc0_stg3_0
abbrev stM : Memref sig .tc .vmem S8x64x256 .bf16 := Memref.whole cc0_scratch0
abbrev uM : Memref sig .tc .vmem S256x512 .bf16 := Memref.whole cc0_scratch1

/-- Slot `d` of the stage buffer, as the transfers name it. -/
abbrev slotM (d : Dev nD) : Memref sig .tc .vmem S64x256 .bf16 :=
  (stM.slice (Rect.unit (s := S8x64x256) (k0_off2 d) S1x64x256.size (k0_off2_inb d)) (fun _ => rfl)).squeeze S64x256 squeezes_S1x64x256_S64x256

/-- The barrier semaphore, the send and the receive semaphores. -/
abbrev barS : Sem sig := (SemArray.scalar (sig.barrier 0 rfl) : Sems sig S_).sem
def sendS (j : Fin 7) : DmaSem sig := ⟨4 + j.val, by have := j.isLt; show 4 + j.val < 18; omega⟩
def recvS (j : Fin 7) : DmaSem sig := ⟨11 + j.val, by have := j.isLt; show 11 + j.val < 18; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The credit of one slot's transfer. -/
abbrev N : ℕ := (slotM 0).view.dmaCredit
theorem N_pos : 0 < N := View.dmaCredit_pos _ (by decide)
theorem credit_slot (d : Dev nD) : (slotM d).view.dmaCredit = N := rfl

/-! ## Contents -/

section Contents

variable (m : (ℓ : Loc nD τ sig) → Buf (Elt F) ℓ)

/-- What the staging buffers of device `c` hold: its `x`, its expert numbers, its two experts' weights. -/
def xstg (c : Dev nD) : (cc0_stg0_0 : Ref sig .tc).ty.Contents (Elt F) :=
  (win0_0.blk (0 : Fin 1)).view.read (Elt F) (m ((c : Thread nD τ).loc main_arg0))
def istg (c : Dev nD) : (cc0_stg1_0 : Ref sig .tc).ty.Contents (Elt F) :=
  (win0_1.blk (0 : Fin 1)).view.read (Elt F) (m ((c : Thread nD τ).loc main_arg2))
def wstg (c : Dev nD) : (cc0_stg2_0 : Ref sig .tc).ty.Contents (Elt F) :=
  (win0_2.blk (0 : Fin 1)).view.read (Elt F) (m ((c : Thread nD τ).loc main_arg3))

/-- The word the program compares expert owners with: the device's number. -/
abbrev myWord (c : Dev nD) : BitVec 32 := Scalar.remsi (Scalar.divsi (Dev.word c) 1#32) 8#32

/-- The two weight matrices as the program loads them. -/
def w0 (c : Dev nD) : Vec F S1x128x256 .f32 :=
  wM.view.readAt (Elt F) (Rect.unit (s := S2x128x256) ![0, 0, 0] S1x128x256.size inb_S2x128x256_S1x128x256_0_0_0).toLoadRect (wstg m c)
def w1 (c : Dev nD) : Vec F S1x128x256 .f32 :=
  wM.view.readAt (Elt F) (Rect.unit (s := S2x128x256) ![1, 0, 0] S1x128x256.size inb_S2x128x256_S1x128x256_1_0_0).toLoadRect (wstg m c)

/-- The packed block device `c` computes and sends. -/
def packed (c : Dev nD) : Vec F S1x64x256 .bf16 :=
  k0_pay7 (k0_pay2 (F := F) (istg m c)) (k0_pay5 (myWord c) (k0_pay2 (F := F) (istg m c)) 2#32) (k0_pay6 (xstg m c))
    (constant S64x128 .f32 0x00000000#32) (w0 m c) (w1 m c)

/-- The stage buffer once every slot has arrived: slot `d` holds device `d`'s packed block. The same on every device. -/
def stageAll : (cc0_scratch0 : Ref sig .tc).ty.Contents (Elt F) :=
  fun i : S8x64x256.Idx => packed m (i 0) (ValueIdx.ix3 0 (i 1) (i 2))

end Contents

end Cert.Dispatch

end
-- ==== Proof.Slots.lean ====
/-
The slots of the stage buffer, the schedule of the exchange, what each device owes, and the levels.
-/
module

public import proofs.«01_k».proof.Proof.Proto

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots of the stage buffer -/

/-- Slot `d` of device `c`'s stage buffer, at a share. -/
def slotPts (d c : Dev nD) (q : PosShare TreeShare) (f : Buf (Elt F) ((c : Thread nD τ).loc cc0_scratch0)) : sProp 𝕄 :=
  (slotM d).view.loc (c : Thread nD τ) ↦[(slotM d).view.set]{q} f

omit [FloatOps F] in
instance slotPts_storable (d c : Dev nD) (q) (f) : BI.Storable (upEmb : UEmb _ 𝕄) (slotPts (F := F) d c q f) := by
  unfold slotPts; infer_instance

/-- The rectangle of slot `d`. -/
abbrev slotR (d : Dev nD) : Rect S8x64x256 := Rect.unit (s := S8x64x256) (k0_off2 d) S1x64x256.size (k0_off2_inb d)

theorem slot_set (d : Dev nD) : (slotM d).view.set = (slotR d).set := by
  show (((View.whole cc0_scratch0).slice (slotR d)).reshape S64x256 _).set = _
  rw [View.set_reshape, View.set_slice_whole]

/-- An index lies in slot `d` exactly when its first coordinate is `d`. -/
theorem mem_slot (d : Dev nD) (i : S8x64x256.Idx) : i ∈ (slotM d).view.set ↔ i 0 = d := by
  rw [slot_set]
  constructor
  · intro h
    rw [← Rect.map_emb_univ, Finset.mem_map] at h
    obtain ⟨y, -, rfl⟩ := h
    apply Fin.ext
    have h0 := ValueKit.rect_emb_unit_val (s := S8x64x256) (k0_off2 d) S1x64x256.size (k0_off2_inb d) y 0
    have hy : (y 0).val = 0 := by have := (y 0).isLt; change (y 0).val < 1 at this; omega
    have ho : k0_off2 d 0 = d.val := by rw [k0_off2_eq]; rfl
    refine h0.trans ?_
    rw [ho, hy, Nat.add_zero]
  · rintro rfl
    rw [← Rect.map_emb_univ, Finset.mem_map]
    refine ⟨(ValueIdx.ix3 0 (i 1) (i 2) : S1x64x256.Idx), Finset.mem_univ _, ?_⟩
    funext a
    apply Fin.ext
    have h0 := ValueKit.rect_emb_unit_val (s := S8x64x256) (k0_off2 (i 0)) S1x64x256.size (k0_off2_inb (i 0)) (ValueIdx.ix3 0 (i 1) (i 2)) a
    have ho := congrFun (k0_off2_eq (i 0 : Dev nD)) a
    refine h0.trans ((congrArg (· + _) ho).trans ?_)
    fin_cases a
    · rfl
    · exact Nat.zero_add _
    · exact Nat.zero_add _

theorem slots_disjoint (d d' : Dev nD) (h : d ≠ d') : Disjoint (slotM d).view.set (slotM d').view.set :=
  Finset.disjoint_left.mpr fun i hi hi' => h (((mem_slot d i).mp hi).symm.trans ((mem_slot d' i).mp hi'))

theorem slots_cover : (Finset.univ : Finset (Dev nD)).biUnion (fun d => (slotM d).view.set) = (Finset.univ : Finset S8x64x256.Idx) := by
  ext i
  simp only [Finset.mem_biUnion, Finset.mem_univ, true_and, iff_true]
  exact ⟨i 0, (mem_slot (i 0) i).mpr rfl⟩

omit [FloatOps F] in
/-- The whole stage buffer is its eight slots. -/
theorem stage_slots (c : Dev nD) (f : Buf (Elt F) ((c : Thread nD τ).loc cc0_scratch0)) :
    (((c : Thread nD τ).loc cc0_scratch0) ↦{fullShare} f : sProp 𝕄) = bigSep Finset.univ fun d : Dev nD => slotPts d c fullShare f := by
  have h := pointsTo_biUnion (Ix := Unit) (Name := ℕ) (U := UU) (Lvl := ℕ) (q := fullShare) (f := f) (ℓ := (c : Thread nD τ).loc cc0_scratch0)
    (Finset.univ : Finset (Dev nD)) (fun d => (slotM d).view.set) (fun d _ d' _ hd => slots_disjoint d d' hd)
  unfold slotPts
  refine Eq.trans ?_ h
  rw [slots_cover]

omit [FloatOps F] in
/-- … its own and the seven others', in either order of going round. -/
theorem stage_peers (c : Dev nD) (f : Buf (Elt F) ((c : Thread nD τ).loc cc0_scratch0)) :
    (((c : Thread nD τ).loc cc0_scratch0) ↦{fullShare} f : sProp 𝕄)
      = iprop(slotPts c c fullShare f ∗ bigSepL offs fun j => slotPts (peer c j) c fullShare f) := by
  rw [stage_slots, bigSep_univ_eq_bigSepL _ (devs_peer c).1 (devs_peer c).2]; rfl

omit [FloatOps F] in
theorem stage_origs (c : Dev nD) (f : Buf (Elt F) ((c : Thread nD τ).loc cc0_scratch0)) :
    (((c : Thread nD τ).loc cc0_scratch0) ↦{fullShare} f : sProp 𝕄)
      = iprop(slotPts c c fullShare f ∗ bigSepL offs fun j => slotPts (orig c j) c fullShare f) := by
  rw [stage_slots, bigSep_univ_eq_bigSepL _ (devs_orig c).1 (devs_orig c).2]; rfl

/-- The share of a device's own slot that its transfer `j` reads. -/
abbrev dealt (j : Fin 7) : PosShare TreeShare := Transfers.dealOf fullShare Finset.univ j

theorem offs_univ : (Finset.univ : Finset (Fin 7)) = offs.toFinset := by decide
theorem offs_nodup : offs.Nodup := by decide

omit [FloatOps F] in
/-- A full slot dealt among the seven transfers. -/
theorem slot_deal (d c : Dev nD) (f : Buf (Elt F) ((c : Thread nD τ).loc cc0_scratch0)) :
    (slotPts d c fullShare f : sProp 𝕄) = bigSepL offs fun j => slotPts d c (dealt j) f := by
  unfold slotPts
  rw [Transfers.pointsTo_deal (Finset.univ : Finset (Fin 7)) ⟨0, Finset.mem_univ _⟩ fullShare,
    bigSep_univ_eq_bigSepL offs offs_univ offs_nodup]

/-- What a transfer of slot `d` holding its final contents writes is its final contents. -/
theorem slot_sent (d c' : Dev nD) (fd : Buf (Elt F) ((c' : Thread nD τ).loc cc0_scratch0)) :
    ((slotM d).view.loc (c' : Thread nD τ) ↦[(slotM d).view.set]{fullShare}
        ((slotM d).view.write (Elt F) fd ((slotM d).view.read (Elt F) (stageAll m)) Finset.univ) : sProp 𝕄)
      = slotPts d c' fullShare (stageAll m) := by
  unfold slotPts
  refine pointsTo_congr fun i hi => ?_
  obtain ⟨y, -, rfl⟩ := Finset.mem_map.mp hi
  rw [View.write_emb_of_mem _ _ (Finset.mem_univ y)]
  rfl

/-- The rectangle the packed block is stored at. -/
abbrev storeR (d : Dev nD) : Rect S8x64x256 := Rect.unit (s := S8x64x256) (k0_off1 d) S1x64x256.size (k0_off1_inb d)

theorem off1_off2 (d : Dev nD) : k0_off1 d = k0_off2 d := by rw [k0_off1_eq, k0_off2_eq]
theorem store_set (d : Dev nD) : ((stM.access (storeR d)) : View sig .tc _ _ _).set = (slotM d).view.set := by
  rw [slot_set]
  show ((View.whole cc0_scratch0).slice (storeR d)).set = _
  rw [View.set_slice_whole]
  simp only [storeR, slotR, off1_off2]

/-- The store of the packed block makes the slot's final contents. -/
theorem slot_stored (c : Dev nD) (f : Buf (Elt F) ((c : Thread nD τ).loc cc0_scratch0)) :
    ((stM.access (storeR c)).loc (c : Thread nD τ) ↦[(slotM c).view.set]{fullShare}
        ((stM.access (storeR c)).write (Elt F) f (packed m c) Finset.univ) : sProp 𝕄)
      = slotPts c c fullShare (stageAll m) := by
  unfold slotPts
  refine pointsTo_congr fun i hi => ?_
  rw [← store_set] at hi
  obtain ⟨y, -, rfl⟩ := Finset.mem_map.mp hi
  rw [View.write_emb_of_mem _ _ (Finset.mem_univ y)]
  have hv (a : Fin 3) : ((((stM.access (storeR c)) : View sig .tc _ _ _).emb y a : Fin _) : Nat) = k0_off1 c a + (y a).val :=
    ValueKit.rect_emb_unit_val (s := S8x64x256) (k0_off1 c) S1x64x256.size (k0_off1_inb c) y a
  have ho : k0_off1 c = ![c.val, 0, 0] := k0_off1_eq c
  have hy : (y 0).val = 0 := by have := (y 0).isLt; change (y 0).val < 1 at this; omega
  have e0 : (((stM.access (storeR c)) : View sig .tc _ _ _).emb y : S8x64x256.Idx) 0 = c :=
    Fin.ext ((hv 0).trans (by rw [ho, hy]; rfl))
  have e : (ValueIdx.ix3 0 ((((stM.access (storeR c)) : View sig .tc _ _ _).emb y : S8x64x256.Idx) 1)
      ((((stM.access (storeR c)) : View sig .tc _ _ _).emb y : S8x64x256.Idx) 2) : S1x64x256.Idx) = y := by
    funext a; apply Fin.ext
    fin_cases a
    · exact hy.symm
    · exact (hv 1).trans (by rw [ho]; exact Nat.zero_add _)
    · exact (hv 2).trans (by rw [ho]; exact Nat.zero_add _)
  show _ = packed m _ _
  rw [e0, e]
  rfl

/-! ## The schedule -/

/-- What the signal named `j` at device `c`'s barrier hands over: `c`'s slot on the device `j + 1` places on. -/
def barPay (c : Dev nD) (j : Fin 7) : sProp 𝕄 := iprop(∃ f, slotPts c (peer c j) fullShare f)
/-- What transfer `j`'s arrival at device `c` brings: the sender's slot there, final. -/
def recvPay (c : Dev nD) (j : Fin 7) : sProp 𝕄 := slotPts (orig c j) c fullShare (stageAll m)
/-- What the end of device `c`'s transfer `j` brings back: the share of its own slot it read. -/
def sendPay (c : Dev nD) (j : Fin 7) : sProp 𝕄 := slotPts c c (dealt j) (stageAll m)

/-- The offset a transfer semaphore belongs to. -/
def offOf (q : DmaSem sig) : Fin 7 := ⟨(q.val + 3) % 7, Nat.mod_lt _ (by decide)⟩
theorem offOf_send : ∀ j : Fin 7, offOf (sendS j) = j := by decide
theorem offOf_recv : ∀ j : Fin 7, offOf (recvS j) = j := by decide

/-- One round. A barrier cell takes seven units, one from each other device; a transfer's cell the transfer's credit. -/
def rd : Rounds.Schedule (GSem nD τ sig) (Fin 7) 𝕄 where
  duties g r := if r = 0 ∧ g.1.2 = .tc then
    (match g.2 with | .reg s => if s = barS then Finset.univ else ∅ | .dma q => if 4 ≤ q.val then {0} else ∅) else ∅
  unitless _ := False
  amount g _ _ := match g.2 with | .reg _ => 1 | .dma _ => N
  payload g _ d := match g.2 with
    | .reg _ => barPay g.1.1 d
    | .dma q => if q.val < 11 then sendPay m g.1.1 (offOf q) else recvPay m g.1.1 (offOf q)
  amount_pos g _ _ _ := by
    rcases g with ⟨t, _ | _⟩
    · exact Nat.one_pos
    · exact N_pos

instance rd_payload_storable (g : GSem nD τ sig) (r : ℕ) (d : Fin 7) :
    BI.Storable (upEmb : UEmb _ 𝕄) ((rd (F := F) m).payload g r d) := by
  rcases g with ⟨t, s | q⟩
  · show BI.Storable upEmb (barPay t.1 d); unfold barPay; infer_instance
  · show BI.Storable upEmb (if q.val < 11 then sendPay m t.1 (offOf q) else recvPay m t.1 (offOf q))
    unfold sendPay recvPay
    split <;> infer_instance

section Sched
variable (c : Dev nD) (j : Fin 7)

theorem send_lt : (sendS j).val < 11 := by have := j.isLt; show 4 + j.val < 11; omega
theorem recv_ge : ¬ (recvS j).val < 11 := by show ¬ 11 + j.val < 11; omega

theorem duties_bar : (rd (F := F) m).duties (barCell c) 0 = Finset.univ := by
  dsimp only [rd]
  rw [if_pos (show (0 : ℕ) = 0 ∧ ((c : Thread nD τ)).2 = .tc from ⟨rfl, rfl⟩)]
  exact if_pos rfl
theorem duties_send : (rd (F := F) m).duties (sendCell c j) 0 = {0} := by
  dsimp only [rd]
  rw [if_pos (show (0 : ℕ) = 0 ∧ ((c : Thread nD τ)).2 = .tc from ⟨rfl, rfl⟩)]
  exact if_pos (Nat.le_add_right 4 j.val)
theorem duties_recv : (rd (F := F) m).duties (recvCell c j) 0 = {0} := by
  dsimp only [rd]
  rw [if_pos (show (0 : ℕ) = 0 ∧ ((c : Thread nD τ)).2 = .tc from ⟨rfl, rfl⟩)]
  exact if_pos (by show 4 ≤ 11 + j.val; omega)
theorem duties_later (g : GSem nD τ sig) : ∀ r, 1 ≤ r → (rd (F := F) m).duties g r = ∅ :=
  fun r hr => by dsimp only [rd]; rw [if_neg fun h => by omega]

theorem amount_bar (d : Fin 7) : (rd (F := F) m).amount (barCell c) 0 d = 1 := rfl
theorem amount_send (d : Fin 7) : (rd (F := F) m).amount (sendCell c j) 0 d = N := rfl
theorem amount_recv (d : Fin 7) : (rd (F := F) m).amount (recvCell c j) 0 d = N := rfl

theorem expect_bar : (rd (F := F) m).expect (barCell c) 0 = 7 := by
  unfold Schedule.expect Schedule.amountOf
  rw [duties_bar, Finset.sum_congr rfl fun d _ => amount_bar m c d]; rfl
theorem expect_send : (rd (F := F) m).expect (sendCell c j) 0 = N := by
  unfold Schedule.expect Schedule.amountOf; rw [duties_send, Finset.sum_singleton, amount_send]
theorem expect_recv : (rd (F := F) m).expect (recvCell c j) 0 = N := by
  unfold Schedule.expect Schedule.amountOf; rw [duties_recv, Finset.sum_singleton, amount_recv]

theorem payload_bar (d : Fin 7) : (rd (F := F) m).payload (barCell c) 0 d = barPay c d := rfl
theorem payload_send (d : Fin 7) : (rd (F := F) m).payload (sendCell c j) 0 d = sendPay m c j := by
  show (if (sendS j).val < 11 then sendPay m c (offOf (sendS j)) else _) = _
  rw [if_pos (send_lt j), offOf_send]
theorem payload_recv (d : Fin 7) : (rd (F := F) m).payload (recvCell c j) 0 d = recvPay m c j := by
  show (if (recvS j).val < 11 then _ else recvPay m c (offOf (recvS j))) = _
  rw [if_neg (recv_ge j), offOf_recv]

theorem rest_bar : bigSep ((rd (F := F) m).duties (barCell c) 0 \ ∅) (fun d => (rd (F := F) m).payload (barCell c) 0 d)
    = bigSepL offs fun j => barPay c j := by
  rw [Finset.sdiff_empty, duties_bar, bigSep_univ_eq_bigSepL offs offs_univ offs_nodup]; rfl
theorem rest_send : bigSep ((rd (F := F) m).duties (sendCell c j) 0 \ ∅) (fun d => (rd (F := F) m).payload (sendCell c j) 0 d)
    = sendPay m c j := by
  rw [Finset.sdiff_empty, duties_send, bigSep_singleton, payload_send]
theorem rest_recv : bigSep ((rd (F := F) m).duties (recvCell c j) 0 \ ∅) (fun d => (rd (F := F) m).payload (recvCell c j) 0 d)
    = recvPay m c j := by
  rw [Finset.sdiff_empty, duties_recv, bigSep_singleton, payload_recv]

end Sched

/-! ## What a device owes; the levels -/

/-- The credits of the transfers at the offsets `l`, owed to the receivers. -/
def oSend (c : Dev nD) : List (Fin 7) → CellTallies nD τ sig Unit
  | [] => 0
  | j :: l => oSend c l + tallyAt (recvCell (peer c j) j) () N
/-- The barrier units at the offsets `l`, over all the transfers' credits. -/
def oSig (c : Dev nD) : List (Fin 7) → CellTallies nD τ sig Unit
  | [] => oSend c offs
  | j :: l => oSig c l + tallyAt (barCell (peer c j)) () 1
/-- What device `c` owes at launch. -/
def O₀ (c : Dev nD) : CellTallies nD τ sig Unit := oSig c offs

def L (g : GSem nD τ sig) : Finset Unit := if g.1.2 = .tc then {()} else ∅
/-- Barrier cells at 1, receive cells at 2, the rest (staging, send) at 0. -/
def lv (g : GSem nD τ sig) (_ : Unit) : ℕ := match g.2 with | .reg _ => 1 | .dma q => if q.val < 11 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 7) : lv (recvCell c j) () = 2 := if_neg (recv_ge j)

theorem tally_pos {g h : GSem nD τ sig} {u : Unit} {k : ℕ} (hp : 0 < (tallyAt h () k : CellTallies nD τ sig Unit) g u) : g = h := by
  rw [tallyAt_apply] at hp
  by_contra hn
  rw [if_neg (fun h' => hn h'.1)] at hp
  exact Nat.lt_irrefl 0 hp

theorem oSend_pos {c : Dev nD} {g : GSem nD τ sig} {u : Unit} : ∀ {l : List (Fin 7)}, 0 < oSend c l g u → ∃ j, g = recvCell (peer c j) j
  | [], h => absurd h (Nat.lt_irrefl 0)
  | j :: l, h => by
    unfold oSend at h
    rw [Pi.add_apply, Finsupp.add_apply] at h
    rcases Nat.eq_zero_or_pos (oSend c l g u) with h0 | h0
    · rw [h0, Nat.zero_add] at h; exact ⟨j, tally_pos h⟩
    · exact oSend_pos h0

theorem oSig_pos {c : Dev nD} {g : GSem nD τ sig} {u : Unit} :
    ∀ {l : List (Fin 7)}, 0 < oSig c l g u → (∃ j, g = recvCell (peer c j) j) ∨ ∃ j, g = barCell (peer c j)
  | [], h => Or.inl (oSend_pos h)
  | j :: l, h => by
    unfold oSig at h
    rw [Pi.add_apply, Finsupp.add_apply] at h
    rcases Nat.eq_zero_or_pos (oSig c l g u) with h0 | h0
    · rw [h0, Nat.zero_add] at h; exact Or.inr ⟨j, tally_pos h⟩
    · exact oSig_pos h0

omit [FloatOps F] in
/-- The staging waits come below everything owed. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oSig_pos hg with ⟨j, rfl⟩ | ⟨j, rfl⟩ <;> exact Finset.mem_singleton_self _)
      (fun p hp => by rw [Finset.mem_singleton.mp hp]; exact (if_pos hq).le)
      (fun g u hg => by
        rcases oSig_pos hg with ⟨j, rfl⟩ | ⟨j, rfl⟩
        · show 0 < lv (recvCell _ j) (); rw [lv_recv]; decide
        · exact Nat.one_pos)
  · rw [MayWait_zero]; iintro -; iempintro

omit [FloatOps F] in
/-- The barrier wait comes below the transfers' credits, all that is owed then. -/
theorem mayWait_bar (c : Dev nD) : (levAts L lv : sProp 𝕄) ⊢ MayWait (c : Thread nD τ) (.reg barS) () (oSend c offs) :=
  MayOwe.of_cut (L := L) (lev := lv) 1 (fun p hp => by rw [Finset.mem_singleton.mp hp, L_tc]; exact Finset.mem_singleton_self _)
    (fun g u hg => by obtain ⟨j, rfl⟩ := oSend_pos hg; exact Finset.mem_singleton_self _)
    (fun p hp => by rw [Finset.mem_singleton.mp hp]; exact le_refl 1)
    (fun g u hg => by obtain ⟨j, rfl⟩ := oSend_pos hg; show 1 < lv (recvCell _ j) (); rw [lv_recv]; decide)

/-! ## The cells, numbered, and their invariants -/

/-- A device's cells: the barrier's, then the transfers' in the order of their semaphores. -/
abbrev csem : Fin 15 → SemLoc sig := fun k => if k.val = 0 then .reg barS else .dma ⟨3 + k.val, by have := k.isLt; show 3 + k.val < 18; omega⟩
abbrev kcell (ck : Dev nD × Fin 15) : GSem nD τ sig := ((ck.1 : Thread nD τ), csem ck.2)
def sendK (j : Fin 7) : Fin 15 := ⟨1 + j.val, by omega⟩
def recvK (j : Fin 7) : Fin 15 := ⟨8 + j.val, by omega⟩
theorem csem_send : ∀ j : Fin 7, csem (sendK j) = .dma (sendS j) := by decide
theorem csem_recv : ∀ j : Fin 7, csem (recvK j) = .dma (recvS j) := by decide

/-- Every cell's invariant, under the names `K`, and that it is at round 0. -/
def records (K : Dev nD × Fin 15 → ℕ) : sProp 𝕄 :=
  iprop((bigSep Finset.univ fun ck : Dev nD × Fin 15 => cellInv ER (rd m) (K ck) (kcell ck))
    ∗ bigSep Finset.univ fun ck : Dev nD × Fin 15 => reached ER (kcell ck) 0)

instance records_persistent (K : Dev nD × Fin 15 → ℕ) : BI.Persistent (records m K) := by unfold records; infer_instance

variable (K : Dev nD × Fin 15 → ℕ)

theorem records_at (ck : Dev nD × Fin 15) : records m K ⊢ iprop(cellInv ER (rd m) (K ck) (kcell ck) ∗ reached ER (kcell ck) 0) := by
  unfold records
  exact BIClass.sep_mono (bigSep_elim (Finset.mem_univ ck)) (bigSep_elim (Finset.mem_univ ck))

theorem records_bar (c : Dev nD) : records m K ⊢ iprop(cellInv ER (rd m) (K (c, 0)) (barCell c) ∗ reached ER (barCell c) 0) :=
  records_at m K (c, 0)
theorem records_send (c : Dev nD) (j : Fin 7) :
    records m K ⊢ iprop(cellInv ER (rd m) (K (c, sendK j)) (sendCell c j) ∗ reached ER (sendCell c j) 0) := by
  have h := records_at m K (c, sendK j)
  unfold kcell at h
  rw [csem_send] at h
  exact h
theorem records_recv (c : Dev nD) (j : Fin 7) :
    records m K ⊢ iprop(cellInv ER (rd m) (K (c, recvK j)) (recvCell c j) ∗ reached ER (recvCell c j) 0) := by
  have h := records_at m K (c, recvK j)
  unfold kcell at h
  rw [csem_recv] at h
  exact h

end Cert.Dispatch

end
-- ==== Proof.Steps.lean ====
/-
The steps of the body, one lemma per kind: signal, barrier wait, transfer, the two waits of a transfer, and the store of a column block of the selection matrix.
-/
module

public import proofs.«01_k».proof.Proof.Slots
public import Idealize.ShloMosaic.Lib.Pipeline.BigSepL

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 15 → ℕ)

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on. -/
def owesE (c : Dev nD) (O : CellTallies nD τ sig Unit) : sProp 𝕄 := iprop(∃ W, owes (c : Thread nD τ) O W)

/-! ## The signals -/

/-- What the signal at offset `j` spends: the duty of the other's barrier it pays and the slot it gives away. -/
def sigRes (c : Dev nD) (j : Fin 7) : sProp 𝕄 :=
  iprop(dutyTok ER (barCell (peer c j)) 0 j.rev ∗ ∃ f, slotPts (peer c j) c fullShare f)

theorem wp_sig {c n : Dev nD} {j : Fin 7} {l : List (Fin 7)} (hn : n = peer c j) {k' : ℕ} (hk : k' = 1)
    {α : Type} {Q : α → sProp 𝕄} {k : PUnit → Prog (TpuEff nD τ sig (Elt F) Λ₀ .tc) α} :
    iprop(records m K ∗ owesE c (oSig c (j :: l)) ∗ bigSepL (j :: l) (sigRes (F := F) c))
      ⊢ iprop(((owesE c (oSig c l) ∗ bigSepL l (sigRes (F := F) c)) -∗ wpc c (k ⟨⟩) Q)
          -∗ wpc c (.op (.semSignal (n : Thread nD τ) barS k') k) Q) := by
  subst hn hk
  rw [bigSepL_cons']
  unfold owesE sigRes
  iintro ⟨#HR, ⟨%W, HO⟩, ⟨Htok, ⟨%f, Hs⟩⟩, Hl⟩ Hk
  ihave Hb := (records_bar m K (peer c j)) $$ HR
  icases Hb with ⟨#HI, #Hr⟩
  iapply (Rounds.wp_signal 𝒱₀ ER (rd m) (c : Thread nD τ) none (dst := (peer c j : Thread nD τ)) (κ := K (peer c j, 0))
      (d := j.rev) (by rw [duties_bar]; exact Finset.mem_univ _) (amount_bar m (peer c j) j.rev) () (oSig c l) rfl)
    $$ [HO Htok Hs]
  · isplitr; · iexact HI
    isplitl [HO]; · iexact HO
    isplitl [Htok]; · iexact Htok
    isplitl [Hs]
    · rw [payload_bar]; unfold barPay; rw [peer_back]; iexists f; iexact Hs
    · iexact Hr
  iintro HO
  iapply Hk
  isplitl [HO]; · iexists W; iexact HO
  iexact Hl

/-! ## The barrier wait -/

theorem wp_barrier {c : Dev nD} {k' : ℕ} (hk : k' = 7)
    {α : Type} {Q : α → sProp 𝕄} {k : PUnit → Prog (TpuEff nD τ sig (Elt F) Λ₀ .tc) α} :
    iprop(records m K ∗ levAts L lv ∗ owesE c (oSend c offs) ∗ cred (tallyAt (barCell c) () 7) ∗ atPos ER (barCell c) 0 ∅ 0)
      ⊢ iprop(((owesE c (oSend c offs) ∗ semVal (barCell c) 0 ∗ bigSepL offs fun j => barPay (F := F) c j) -∗ wpc c (k ⟨⟩) Q)
          -∗ wpc c (.op (.semWait barS k') k) Q) := by
  subst hk
  unfold owesE
  iintro ⟨#HR, #Hlev, ⟨%W, HO⟩, Hc, Hat⟩ Hk
  ihave Hb := (records_bar m K c) $$ HR
  icases Hb with ⟨#HI, -⟩
  iapply (Rounds.wp_wait_rest_token 𝒱₀ ER (rd m) (c : Thread nD τ) none (κ := K (c, 0))
      (wpE_semWait_eq 𝒱₀ (c : Thread nD τ) none Set.univ) (Set.mem_univ _) () (O := oSend c offs) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (rd m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-! ## The transfers -/

/-- What transfer `j` spends: the duties of its two cells, its slot on the receiver, and a share of its own slot. -/
def sendRes (c : Dev nD) (j : Fin 7) : sProp 𝕄 :=
  iprop((dutyTok ER (sendCell c j) 0 0 ∗ dutyTok ER (recvCell (peer c j) j) 0 0)
    ∗ barPay (F := F) c j ∗ slotPts c c (dealt j) (stageAll m))

theorem oSend_cons (c : Dev nD) (j : Fin 7) (l : List (Fin 7)) : oSend c (j :: l) = oSend c l + tallyAt (recvCell (peer c j) j) () N := rfl

set_option maxHeartbeats 1000000 in
theorem wp_xfer {c n : Dev nD} {j : Fin 7} {l : List (Fin 7)} (hn : n = peer c j) {sS sR : DmaSem sig} (hS : sS = sendS j) (hR : sR = recvS j)
    {hsc : (slotM c : Memref sig (Dev.tc n : Thread nD τ).2.kind .vmem S64x256 .bf16).view.ref.isScScratch = false}
    {hsrc : (slotM c).view.WordExact} {hdst : (slotM c).view.WordExact}
    {hsem : DmaTarget.Typed .vmem (.dma sR) (.remote (Dev.tc n : Thread nD τ) (slotM c : Memref sig .tc .vmem S64x256 .bf16) (.dma sS) hsc)}
    {α : Type} {Q : α → sProp 𝕄} {k : PUnit → Prog (TpuEff nD τ sig (Elt F) Λ₀ .tc) α} :
    iprop(records m K ∗ owesE c (oSend c (j :: l)) ∗ bigSepL (j :: l) (sendRes m c))
      ⊢ iprop(((owesE c (oSend c l) ∗ cred (tallyAt (sendCell c j) () N) ∗ bigSepL l (sendRes m c)) -∗ wpc c (k ⟨⟩) Q)
          -∗ wpc c (.op (.enqueueDma (slotM c) (.remote (Dev.tc n : Thread nD τ) (slotM c) (.dma sS) hsc) (.dma sR) hsrc hdst hsem) k) Q) := by
  subst hn hS hR
  rw [bigSepL_cons']
  unfold owesE sendRes barPay
  iintro ⟨#HR, ⟨%W, HO⟩, ⟨⟨HtS, HtR⟩, ⟨%fd, Hd⟩, Hs⟩, Hl⟩ Hk
  ihave Hb := (records_send m K c j) $$ HR
  icases Hb with ⟨#HIs, #Hrs⟩
  ihave Hb := (records_recv m K (peer c j) j) $$ HR
  icases Hb with ⟨#HIr, #Hrr⟩
  iapply (Rounds.wp_send_pointsTo 𝒱₀ ER (rd m) (c : Thread nD τ) none (c' := Dev.tc (peer c j)) (src := slotM c) (dst := slotM c)
    (sS := .dma (sendS j)) (sem := .dma (recvS j)) (hsc := hsc) (hsrc := hsrc) (hdst := hdst) (hsem := hsem) (k := k) (Q := Q) (Es := Set.univ) (κ₁ := K (c, sendK j)) (κ₂ := K (peer c j, recvK j))
    (r₁ := 0) (r₂ := 0) (d₁ := 0) (d₂ := 0) (q := dealt j) (fs := stageAll m) (fd := fd)
    (by rw [duties_send]; exact Finset.mem_singleton_self _) (by rw [duties_recv]; exact Finset.mem_singleton_self _)
    () () N (credit_slot c) (amount_send m c j 0) (amount_recv m (peer c j) j 0) (oSend c l) (oSend_cons c j l) (W := W)
    (by rw [payload_send]; exact BI.Entails.refl _)
    (by rw [payload_recv]; unfold recvPay; rw [orig_peer]; exact Entails.of_eq (slot_sent m c (peer c j) fd))) $$ [HO HtS HtR Hd Hs]
  · isplitr; · iexact HIs
    isplitr; · iexact HIr
    isplitl [Hs]; · unfold slotPts; iexact Hs
    isplitl [Hd]; · unfold slotPts; iexact Hd
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  isplitl [Hc]; · iexact Hc
  iexact Hl

/-! ## The waits on the transfers -/

theorem wp_sent {c : Dev nD} (j : Fin 7) {sS : DmaSem sig} (hS : sS = sendS j)
    {hsrc : (slotM c).view.WordExact} {hdst : (slotM c).view.WordExact}
    {α : Type} {Q : α → sProp 𝕄} {k : PUnit → Prog (TpuEff nD τ sig (Elt F) Λ₀ .tc) α} :
    iprop(records m K ∗ owesE c 0 ∗ cred (tallyAt (sendCell c j) () N) ∗ atPos ER (sendCell c j) 0 ∅ 0)
      ⊢ iprop(((owesE c 0 ∗ semVal (sendCell c j) 0 ∗ slotPts c c (dealt j) (stageAll m)) -∗ wpc c (k ⟨⟩) Q)
          -∗ wpc c (.op (.waitDma2 sS (slotM c) (slotM c) hsrc hdst) k) Q) := by
  subst hS
  unfold owesE
  iintro ⟨#HR, ⟨%W, HO⟩, Hc, Hat⟩ Hk
  ihave Hb := (records_send m K c j) $$ HR
  icases Hb with ⟨#HI, -⟩
  iapply (Rounds.wp_wait_rest_token 𝒱₀ ER (rd m) (c : Thread nD τ) none (κ := K (c, sendK j))
      (wpE_waitDma2_eq 𝒱₀ (c : Thread nD τ) none Set.univ) (Set.mem_univ _) () (O := 0) (W := W) (R := 0) (m := 0) (T := ∅)
      (by rw [expect_send, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (rd m) (Set.mem_univ (K (c, sendK j))) (fun h => h) (R := 0 + 1) (duties_later m (sendCell c j))) $$ [Hat] with Hz
  · isplitr; · iexact HI
    iexact Hat
  iapply Hk
  isplitl [HO]; · iexists _; iexact HO
  isplitl [Hz]; · iexact Hz
  unfold sendPay
  iexact Hp

theorem wp_recv {c : Dev nD} (j : Fin 7) {sR : DmaSem sig} (hR : sR = recvS j)
    {hsrc : (slotM c).view.WordExact} {hdst : (slotM c).view.WordExact}
    {α : Type} {Q : α → sProp 𝕄} {k : PUnit → Prog (TpuEff nD τ sig (Elt F) Λ₀ .tc) α} :
    iprop(records m K ∗ owesE c 0 ∗ cred (tallyAt (recvCell c j) () N) ∗ atPos ER (recvCell c j) 0 ∅ 0)
      ⊢ iprop(((owesE c 0 ∗ semVal (recvCell c j) 0 ∗ slotPts (orig c j) c fullShare (stageAll m)) -∗ wpc c (k ⟨⟩) Q)
          -∗ wpc c (.op (.waitDma2 sR (slotM c) (slotM c) hsrc hdst) k) Q) := by
  subst hR
  unfold owesE
  iintro ⟨#HR, ⟨%W, HO⟩, Hc, Hat⟩ Hk
  ihave Hb := (records_recv m K c j) $$ HR
  icases Hb with ⟨#HI, -⟩
  iapply (Rounds.wp_wait_rest_token 𝒱₀ ER (rd m) (c : Thread nD τ) none (κ := K (c, recvK j))
      (wpE_waitDma2_eq 𝒱₀ (c : Thread nD τ) none Set.univ) (Set.mem_univ _) () (O := 0) (W := W) (R := 0) (m := 0) (T := ∅)
      (by rw [expect_recv, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  imod (Rounds.cell_close ER (rd m) (Set.mem_univ (K (c, recvK j))) (fun h => h) (R := 0 + 1) (duties_later m (recvCell c j))) $$ [Hat] with Hz
  · isplitr; · iexact HI
    iexact Hat
  iapply Hk
  isplitl [HO]; · iexists _; iexact HO
  isplitl [Hz]; · iexact Hz
  unfold recvPay
  iexact Hp

/-- A send wait and its receive wait, one after the other, the first pending pair of the list: what they spend and bring. -/
def waitRes (c : Dev nD) (j : Fin 7) : sProp 𝕄 :=
  iprop((cred (tallyAt (sendCell c j) () N) ∗ atPos ER (sendCell c j) 0 ∅ 0)
    ∗ cred (tallyAt (recvCell c j) () N) ∗ atPos ER (recvCell c j) 0 ∅ 0)
def waitGot (c : Dev nD) (j : Fin 7) : sProp 𝕄 :=
  iprop((semVal (sendCell c j) 0 ∗ slotPts c c (dealt j) (stageAll m))
    ∗ semVal (recvCell c j) 0 ∗ slotPts (orig c j) c fullShare (stageAll m))

theorem wp_waits {c : Dev nD} {j : Fin 7} {l : List (Fin 7)} {sS sR : DmaSem sig} (hS : sS = sendS j) (hR : sR = recvS j)
    {h1 h2 h3 h4 : (slotM c).view.WordExact}
    {α : Type} {Q : α → sProp 𝕄} {k : PUnit → Prog (TpuEff nD τ sig (Elt F) Λ₀ .tc) α} :
    iprop(records m K ∗ owesE c 0 ∗ bigSepL (j :: l) (waitRes (F := F) c))
      ⊢ iprop(((owesE c 0 ∗ waitGot m c j ∗ bigSepL l (waitRes (F := F) c)) -∗ wpc c (k ⟨⟩) Q)
          -∗ wpc c (.op (.waitDma2 sS (slotM c) (slotM c) h1 h2) fun _ => .op (.waitDma2 sR (slotM c) (slotM c) h3 h4) k) Q) := by
  rw [bigSepL_cons']
  unfold waitRes waitGot
  iintro ⟨#HR, HO, ⟨⟨Hc, Ha⟩, Hc', Ha'⟩, Hl⟩ Hk
  iapply (wp_sent m K j hS) $$ [HO Hc Ha]
  · isplitr; · iexact HR
    isplitl [HO]; · iexact HO
    isplitl [Hc] <;> iassumption
  iintro ⟨HO, Hg⟩
  iapply (wp_recv m K j hR) $$ [HO Hc' Ha']
  · isplitr; · iexact HR
    isplitl [HO]; · iexact HO
    isplitl [Hc'] <;> iassumption
  iintro ⟨HO, Hg'⟩
  iapply Hk
  isplitl [HO]; · iexact HO
  isplitl [Hg Hg']
  · isplitl [Hg] <;> iassumption
  iexact Hl

/-! ## The selection matrix -/

/-- Column block `s` of the selection matrix, as the program computes it. -/
def ublk (c : Dev nD) : Fin 8 → Vec F S256x64 .bf16 :=
  let v120 := k0_pay3 (k0_pay2 (F := F) (istg m c)) 2#32
  let v126 := k0_pay4 (F := F)
  let v127 : IVec S256x64 32 := iota .tc S256x64 32 [1] iota_S256x64_d1_w32
  let v327 := k0_pay8 v120
  let v331 := k0_pay9 v120 v126
  fun | 0 => k0_pay10 v120 v126 v127 | 1 => k0_pay11 v120 v126 v127 | 2 => k0_pay12 v127 v327 v331 | 3 => k0_pay13 v127 v327 v331
      | 4 => k0_pay14 v127 v327 v331 | 5 => k0_pay16 (k0_pay15 v127 v327 v331) | 6 => k0_pay17 v127 v327 v331 | 7 => k0_pay18 v127 v327 v331

/-- The selection matrix on device `c`. -/
def uAll (c : Dev nD) : (cc0_scratch1 : Ref sig .tc).ty.Contents (Elt F) :=
  fun i : S256x512.Idx => ublk m c ⟨(i 1).val / 64, by have h : (i 1).val < 512 := (i 1).isLt; omega⟩
    (ValueIdx.ix2 (i 0) ⟨(i 1).val % 64, Nat.mod_lt _ (by decide)⟩)

/-- Its first `n` column blocks over other contents. -/
def uFill (c : Dev nD) (f : (cc0_scratch1 : Ref sig .tc).ty.Contents (Elt F)) (n : ℕ) : (cc0_scratch1 : Ref sig .tc).ty.Contents (Elt F) :=
  fun i : S256x512.Idx => if (i 1).val < 64 * n then uAll m c i else f i

theorem uFill_zero (c : Dev nD) (f) : uFill m c f 0 = f := funext fun i => if_neg (by omega)
theorem uFill_all (c : Dev nD) (f) : uFill m c f 8 = uAll m c :=
  funext fun i => if_pos (by have h : ((i : S256x512.Idx) 1).val < 512 := ((i : S256x512.Idx) 1).isLt; exact h)

/-- Storing column block `n` extends the filled part by it. -/
theorem uFill_store (c : Dev nD) (f) (n : Fin 8) {off : Fin 2 → ℕ} (ho : off = ![0, 64 * n.val]) (h : ∀ a, off a + S256x64.size a ≤ S256x512.size a) :
    ((uM.access (Rect.unit (s := S256x512) off S256x64.size h)) : View sig .tc _ _ _).write (Elt F) (uFill m c f n) (ublk m c n) Finset.univ
      = uFill m c f (n + 1) := by
  subst ho
  funext i
  have hv (y : (Rect.unit (s := S256x512) ![0, 64 * n.val] S256x64.size h).shape.Idx) (a : Fin 2) :
      ((((uM.access (Rect.unit (s := S256x512) ![0, 64 * n.val] S256x64.size h)) : View sig .tc _ _ _).emb y a : Fin _) : Nat)
        = (![0, 64 * n.val] : Fin 2 → ℕ) a + (y a).val :=
    ValueKit.rect_emb_unit_val (s := S256x512) ![0, 64 * n.val] S256x64.size h y a
  by_cases hi : i ∈ ((uM.access (Rect.unit (s := S256x512) ![0, 64 * n.val] S256x64.size h)) : View sig .tc _ _ _).set
  · obtain ⟨y, -, rfl⟩ := Finset.mem_map.mp hi
    rw [View.write_emb_of_mem _ _ (Finset.mem_univ y)]
    have h1 : ((((uM.access (Rect.unit (s := S256x512) ![0, 64 * n.val] S256x64.size h)) : View sig .tc _ _ _).emb y 1 : Fin _) : Nat)
        = 64 * n.val + (y 1).val := hv y 1
    have h0 : ((((uM.access (Rect.unit (s := S256x512) ![0, 64 * n.val] S256x64.size h)) : View sig .tc _ _ _).emb y 0 : Fin _) : Nat)
        = (y 0).val := (hv y 0).trans (Nat.zero_add _)
    have hy : (y 1).val < 64 := (y 1).isLt
    unfold uFill
    refine Eq.trans ?_ (if_pos (by rw [h1]; omega)).symm
    unfold uAll
    have e1 : (⟨((((uM.access (Rect.unit (s := S256x512) ![0, 64 * n.val] S256x64.size h)) : View sig .tc _ _ _).emb y 1 : Fin _) : Nat) / 64,
        by rw [h1]; have := n.isLt; omega⟩ : Fin 8) = n := Fin.ext (by show _ / 64 = n.val; rw [h1]; omega)
    have e2 : (ValueIdx.ix2 (((uM.access (Rect.unit (s := S256x512) ![0, 64 * n.val] S256x64.size h)) : View sig .tc _ _ _).emb y 0)
        ⟨((((uM.access (Rect.unit (s := S256x512) ![0, 64 * n.val] S256x64.size h)) : View sig .tc _ _ _).emb y 1 : Fin _) : Nat) % 64,
          Nat.mod_lt _ (by decide)⟩ : S256x64.Idx) = y := by
      funext a; apply Fin.ext
      fin_cases a
      · exact h0
      · show _ % 64 = (y 1).val; rw [h1]; omega
    refine Eq.trans ?_ (congrArg₂ (ublk m c) e1.symm e2.symm)
    rfl
  · rw [View.write_of_not_mem _ _ _ (by rwa [View.setOn_univ])]
    unfold uFill
    have hn : ¬ (64 * n.val ≤ ((i : S256x512.Idx) 1).val ∧ ((i : S256x512.Idx) 1).val < 64 * n.val + 64) := by
      rintro ⟨ha, hb⟩
      refine hi (Finset.mem_map.mpr ⟨(ValueIdx.ix2 (i 0) ⟨((i : S256x512.Idx) 1).val - 64 * n.val, by omega⟩ : S256x64.Idx), Finset.mem_univ _, ?_⟩)
      funext a; apply Fin.ext
      refine (hv _ a).trans ?_
      fin_cases a
      · exact Nat.zero_add _
      · show 64 * n.val + (((i : S256x512.Idx) 1).val - 64 * n.val) = ((i : S256x512.Idx) 1).val; omega
    by_cases hl : ((i : S256x512.Idx) 1).val < 64 * n.val
    · rw [if_pos hl, if_pos (by omega)]
    · rw [if_neg hl, if_neg (by omega)]

/-- The load and the store of one column block. -/
theorem wp_ublk {c : Dev nD} (f) (n : Fin 8) (a b : ℕ) (ha : a = n.val) (hb : b = n.val + 1) {off : Fin 2 → ℕ} (ho : off = ![0, 64 * n.val]) {h : ∀ a, off a + S256x64.size a ≤ S256x512.size a}
    {w : Vec F S256x64 .bf16} (hw : w = ublk m c n)
    {hl : uM.view.LoadsAt (Rect.unit (s := S256x512) off S256x64.size h).toLoadRect}
    {hx : (uM.access (Rect.unit (s := S256x512) off S256x64.size h)).Stores Finset.univ}
    {hm : (Finset.univ : Finset (Rect.unit (s := S256x512) off S256x64.size h).shape.Idx) = Finset.univ ∨ ∀ a, (Rect.unit (s := S256x512) off S256x64.size h).stride a = 1}
    {α : Type} {Q : α → sProp 𝕄} {k : PUnit → Prog (TpuEff nD τ sig (Elt F) Λ₀ .tc) α} :
    (((c : Thread nD τ).loc cc0_scratch1) ↦{fullShare} uFill m c f a : sProp 𝕄)
      ⊢ iprop(((((c : Thread nD τ).loc cc0_scratch1) ↦{fullShare} uFill m c f b) -∗ wpc c (k ⟨⟩) Q)
          -∗ wpc c (.op (.load uM (Rect.unit (s := S256x512) off S256x64.size h).toLoadRect hl) fun _ =>
            .op (.store uM (Rect.unit (s := S256x512) off S256x64.size h) w Finset.univ hx hm) k) Q) := by
  subst hw ha hb
  iintro Hu Hk
  iapply (wp_load 𝒱₀ (c : Thread nD τ) none Set.univ (m := uM) (Finset.subset_univ _)) $$ Hu; iintro Hu
  iapply (wp_store 𝒱₀ (c : Thread nD τ) none Set.univ (m := uM) (r := Rect.unit (s := S256x512) off S256x64.size h) (Mk := Finset.univ) (Finset.subset_univ _)) $$ Hu; iintro Hu
  rw [uFill_store m c f n ho]
  iapply Hk
  iexact Hu

end Cert.Dispatch

end
-- ==== Proof.Body.lean ====
/-
The body of the kernel on one device, run step by step.
-/
module

public import proofs.«01_k».proof.Proof.Steps

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A conjunction over the offsets of pairs. -/
theorem each_sep (Φ Ψ : Fin 7 → sProp 𝕄) : (bigSepL offs fun j => iprop(Φ j ∗ Ψ j)) = iprop(bigSepL offs Φ ∗ bigSepL offs Ψ) := by
  rw [← bigSep_univ_eq_bigSepL offs offs_univ offs_nodup, ← bigSep_univ_eq_bigSepL offs offs_univ offs_nodup,
    ← bigSep_univ_eq_bigSepL offs offs_univ offs_nodup, bigSep_sep']

omit [FloatOps F] in
/-- … written out. -/
theorem each_eq (Φ : Fin 7 → sProp 𝕄) : iprop(Φ 0 ∗ Φ 1 ∗ Φ 2 ∗ Φ 3 ∗ Φ 4 ∗ Φ 5 ∗ Φ 6) ⊢ bigSepL offs Φ := .rfl

/-! ## The ghost state a device starts from -/

/-- Its positions at its own cells, and the duties it pays: one unit at each other device's barrier, and per transfer its own
    send cell's and the receiver's receive cell's. -/
def linear (c : Dev nD) : sProp 𝕄 :=
  iprop((atPos ER (barCell c) 0 ∅ 0 ∗ (bigSepL offs fun j => atPos ER (sendCell c j) 0 ∅ 0) ∗ bigSepL offs fun j => atPos ER (recvCell c j) 0 ∅ 0)
    ∗ (bigSepL offs fun j => dutyTok ER (barCell (peer c j)) 0 j.rev)
    ∗ bigSepL offs fun j => iprop(dutyTok ER (sendCell c j) 0 0 ∗ dutyTok ER (recvCell (peer c j) j) 0 0))

/-- The credit it holds: its barrier's seven units and its receive cells' arrivals. -/
def credits (c : Dev nD) : sProp 𝕄 :=
  iprop(cred (tallyAt (barCell c) () 7) ∗ bigSepL offs fun j => cred (tallyAt (recvCell c j) () N))

def start (c : Dev nD) : sProp 𝕄 :=
  iprop((∃ K, records m K ∗ linear (F := F) c) ∗ credits (F := F) c ∗ levAts L lv)

/-- A scratch buffer, whole. -/
abbrev scr (c : Dev nD) (b : Ref sig .tc) (f : b.ty.Contents (Elt F)) : sProp 𝕄 := ((c : Thread nD τ).loc b) ↦{fullShare} f

def Φ₀ (c : Dev nD) : sProp 𝕄 := iprop(start m c ∗ (∃ f, scr (F := F) c cc0_scratch0 f) ∗ ∃ f, scr (F := F) c cc0_scratch1 f)

/-- After the body: both scratch buffers and every cell of its own, closed at zero. -/
def Φ₁ (c : Dev nD) : sProp 𝕄 :=
  iprop((scr (F := F) c cc0_scratch0 (stageAll m) ∗ scr (F := F) c cc0_scratch1 (uAll m c))
    ∗ semVal (barCell c) 0 ∗ (bigSepL offs fun j => semVal (sendCell c j) 0) ∗ bigSepL offs fun j => semVal (recvCell c j) 0)

/-- The kernel's result on device `c`. -/
def outAt (c : Dev nD) : (cc0_stg3_0 : Ref sig .tc).ty.Contents (Elt F) := k0_pay1 (stageAll m) (uAll m c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => istg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 15 → ℕ)

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

omit [FloatOps F] in
theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 zero2 _ f
omit [FloatOps F] in
theorem read_i (f : (cc0_stg1_0 : Ref sig .tc).ty.Contents (Elt F)) :
    iM.view.readAt (Elt F) (Rect.unit (s := S256x1) ![0, 0] S256x1.size inb_S256x1_S256x1_0_0).toLoadRect f = f :=
  Memref.readAt_unit_zero (Elt F) cc0_stg1_0 zero2 _ f
omit [FloatOps F] in
theorem read_st (f : (cc0_scratch0 : Ref sig .tc).ty.Contents (Elt F)) :
    stM.view.readAt (Elt F) (Rect.unit (s := S8x64x256) ![0, 0, 0] S8x64x256.size inb_S8x64x256_S8x64x256_0_0_0).toLoadRect f = f :=
  Memref.readAt_unit_zero (Elt F) cc0_scratch0 zero3 _ f
omit [FloatOps F] in
theorem read_u (f : (cc0_scratch1 : Ref sig .tc).ty.Contents (Elt F)) :
    uM.view.readAt (Elt F) (Rect.unit (s := S256x512) ![0, 0] S256x512.size inb_S256x512_S256x512_0_0).toLoadRect f = f :=
  Memref.readAt_unit_zero (Elt F) cc0_scratch1 zero2 _ f
omit [FloatOps F] in
theorem write_o (f w : (cc0_stg3_0 : Ref sig .tc).ty.Contents (Elt F)) :
    (oM.access (Rect.unit (s := S256x256) ![0, 0] S256x256.size inb_S256x256_S256x256_0_0) : View sig .tc _ _ _).write (Elt F) f w Finset.univ = w :=
  Memref.write_access_unit_zero_univ (Elt F) cc0_stg3_0 zero2 _ f w

theorem read_w0 (c : Dev nD) :
    wM.view.readAt (Elt F) (Rect.unit (s := S2x128x256) ![0, 0, 0] S1x128x256.size inb_S2x128x256_S1x128x256_0_0_0).toLoadRect (wstg m c) = w0 m c := rfl
theorem read_w1 (c : Dev nD) :
    wM.view.readAt (Elt F) (Rect.unit (s := S2x128x256) ![1, 0, 0] S1x128x256.size inb_S2x128x256_S1x128x256_1_0_0).toLoadRect (wstg m c) = w1 m c := rfl
theorem packed_eq (c : Dev nD) :
    k0_pay7 (k0_pay2 (F := F) (istg m c)) (k0_pay5 (myWord c) (k0_pay2 (F := F) (istg m c)) 2#32) (k0_pay6 (xstg m c))
      (constant S64x128 .f32 0x00000000#32) (w0 m c) (w1 m c) = packed m c := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from and what it ends in. -/
def bodyPre (c : Dev nD) : sProp 𝕄 :=
  iprop((records m K ∗ levAts L lv ∗ linear (F := F) c ∗ credits (F := F) c ∗ owesE c (O₀ c))
    ∗ ((∃ f, scr (F := F) c cc0_scratch0 f) ∗ ∃ f, scr (F := F) c cc0_scratch1 f)
    ∗ scr c cc0_stg0_0 (xstg m c) ∗ scr c cc0_stg1_0 (istg m c) ∗ scr c cc0_stg2_0 (wstg m c) ∗ ∃ f, scr (F := F) c cc0_stg3_0 f)

def bodyPost (c : Dev nD) : sProp 𝕄 :=
  iprop(Φ₁ m c ∗ owesE c 0
    ∗ scr c cc0_stg0_0 (xstg m c) ∗ scr c cc0_stg1_0 (istg m c) ∗ scr c cc0_stg2_0 (wstg m c) ∗ scr c cc0_stg3_0 (outAt m c))

/-- The seven signals' resources, from the tokens and the stage buffer. -/
theorem sig_res (c : Dev nD) (f : (cc0_scratch0 : Ref sig .tc).ty.Contents (Elt F)) :
    iprop((bigSepL offs fun j => dutyTok ER (barCell (peer c j)) 0 j.rev) ∗ scr (F := F) c cc0_scratch0 f)
      ⊢ iprop(slotPts c c fullShare f ∗ bigSepL offs (sigRes (F := F) c)) := by
  unfold scr sigRes
  rw [stage_peers, each_sep]
  iintro ⟨Ht, Hs, Hl⟩
  isplitl [Hs]; · iexact Hs
  isplitl [Ht]; · iexact Ht
  iapply (bigSepL_mono (Φ := fun j => slotPts (peer c j) c fullShare f) fun j _ => by iintro H; iexists f; iexact H)
  iexact Hl

/-- The seven transfers' resources, from the tokens, the barrier's payloads and the device's own slot. -/
theorem send_res (c : Dev nD) :
    iprop((bigSepL offs fun j => iprop(dutyTok ER (sendCell c j) 0 0 ∗ dutyTok ER (recvCell (peer c j) j) 0 0))
        ∗ (bigSepL offs fun j => barPay (F := F) c j) ∗ slotPts c c fullShare (stageAll m))
      ⊢ bigSepL offs (sendRes m c) := by
  unfold sendRes
  rw [each_sep (fun j => iprop(dutyTok ER (sendCell c j) 0 0 ∗ dutyTok ER (recvCell (peer c j) j) 0 0)), each_sep (fun j => barPay (F := F) c j),
    slot_deal c c (stageAll m)]

/-- The seven pairs of waits' resources. -/
theorem wait_res (c : Dev nD) :
    iprop((bigSepL offs fun j => cred (tallyAt (sendCell c j) () N)) ∗ (bigSepL offs fun j => atPos ER (sendCell c j) 0 ∅ 0)
        ∗ (bigSepL offs fun j => cred (tallyAt (recvCell c j) () N)) ∗ bigSepL offs fun j => atPos ER (recvCell c j) 0 ∅ 0)
      ⊢ bigSepL offs (waitRes (F := F) c) := by
  unfold waitRes
  rw [each_sep (fun j => iprop(cred (tallyAt (sendCell c j) () N) ∗ atPos ER (sendCell c j) 0 ∅ 0)), each_sep (fun j => cred (tallyAt (sendCell c j) () N)),
    each_sep (fun j => cred (tallyAt (recvCell c j) () N))]
  iintro ⟨H1, H2, H3, H4⟩
  isplitl [H1 H2]
  · isplitl [H1] <;> iassumption
  isplitl [H3] <;> iassumption

/-- What the waits brought: the closed cells and the whole stage buffer. -/
theorem waits_got (c : Dev nD) :
    bigSepL offs (waitGot m c)
      ⊢ iprop(scr c cc0_scratch0 (stageAll m) ∗ (bigSepL offs fun j => semVal (sendCell c j) 0) ∗ bigSepL offs fun j => semVal (recvCell c j) 0) := by
  unfold waitGot scr
  rw [each_sep (fun j => iprop(semVal (sendCell c j) 0 ∗ slotPts c c (dealt j) (stageAll m))), each_sep (fun j => semVal (sendCell c j) 0),
    each_sep (fun j => semVal (recvCell c j) 0), stage_origs, slot_deal c c (stageAll m)]
  iintro ⟨⟨H1, H2⟩, H3, H4⟩
  isplitl [H2 H4]
  · isplitl [H2] <;> iassumption
  isplitl [H1] <;> iassumption

set_option maxHeartbeats 4000000 in
set_option maxRecDepth 4000 in
/-- The body, one step lemma per effect in program order. -/
theorem sound_body (c : Dev nD) (Kt : PUnit → sProp 𝕄) :
    iprop(bodyPre m K c ∗ (bodyPost m c -∗ Kt ⟨⟩))
      ⊢ wpc c (cc0_body xM (Memref.isWhole_whole _) iM (Memref.isWhole_whole _) wM (Memref.isWhole_whole _) oM (Memref.isWhole_whole _)
            stM (Memref.isWhole_whole _) uM (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre linear credits
  iintro ⟨⟨⟨#HR, #Hlev, ⟨⟨HaB, HaS, HaR⟩, HtB, HtX⟩, ⟨HcB, HcR⟩, HO⟩, ⟨⟨%f0, Hst⟩, ⟨%f1, Hu⟩⟩, Hx, Hi, Hw, ⟨%f3, Hout⟩⟩, Hk⟩
  ihave Hs := (sig_res c f0) $$ [HtB Hst]
  · isplitl [HtB] <;> iassumption
  icases Hs with ⟨Hslot, Hs⟩
  unfold O₀
  iapply (wp_sig m K (dev1_eq c) (by decide)) $$ [HO Hs]
  · isplitr; · iexact HR
    isplitl [HO] <;> iassumption
  iintro ⟨HO, Hs⟩
  iapply (wp_sig m K (dev2_eq c) (by decide)) $$ [HO Hs]
  · isplitr; · iexact HR
    isplitl [HO] <;> iassumption
  iintro ⟨HO, Hs⟩
  iapply (wp_sig m K (dev3_eq c) (by decide)) $$ [HO Hs]
  · isplitr; · iexact HR
    isplitl [HO] <;> iassumption
  iintro ⟨HO, Hs⟩
  iapply (wp_sig m K (dev4_eq c) (by decide)) $$ [HO Hs]
  · isplitr; · iexact HR
    isplitl [HO] <;> iassumption
  iintro ⟨HO, Hs⟩
  iapply (wp_sig m K (dev5_eq c) (by decide)) $$ [HO Hs]
  · isplitr; · iexact HR
    isplitl [HO] <;> iassumption
  iintro ⟨HO, Hs⟩
  iapply (wp_sig m K (dev6_eq c) (by decide)) $$ [HO Hs]
  · isplitr; · iexact HR
    isplitl [HO] <;> iassumption
  iintro ⟨HO, Hs⟩
  iapply (wp_sig m K (dev7_eq c) (by decide)) $$ [HO Hs]
  · isplitr; · iexact HR
    isplitl [HO] <;> iassumption
  iintro ⟨HO, Hs⟩
  unfold scr
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  rw [read_i, read_x, read_w0, read_w1, packed_eq]
  unfold slotPts
  iapply (wp_load_rect 𝒱₀ (c : Thread nD τ) none Set.univ (m := stM) (r := storeR c) (store_set c).subset) $$ Hslot; iintro Hslot
  iapply (wp_store 𝒱₀ (c : Thread nD τ) none Set.univ (m := stM) (r := storeR c) (Mk := Finset.univ) (store_set c).subset) $$ Hslot; iintro Hslot
  ihave Hslot := (Entails.of_eq (slot_stored m c f0)) $$ Hslot
  rw [show oSig c [] = oSend c offs from rfl]
  iapply (wp_barrier m K (by decide)) $$ [HO HcB HaB]
  · isplitr; · iexact HR
    isplitr; · iexact Hlev
    isplitl [HO]; · iexact HO
    isplitl [HcB] <;> iassumption
  iintro ⟨HO, HzB, Hpay⟩
  ihave Hs := (send_res m c) $$ [HtX Hpay Hslot]
  · isplitl [HtX]; · iexact HtX
    isplitl [Hpay] <;> iassumption
  iapply (wp_xfer m K (dev8_eq c) (sS := sendS 0) (sR := recvS 0) rfl rfl) $$ [HO Hs]
  · isplitr; · iexact HR
    isplitl [HO] <;> iassumption
  iintro ⟨HO, Hc0, Hs⟩
  iapply (wp_xfer m K (dev9_eq c) (sS := sendS 1) (sR := recvS 1) rfl rfl) $$ [HO Hs]
  · isplitr; · iexact HR
    isplitl [HO] <;> iassumption
  iintro ⟨HO, Hc1, Hs⟩
  iapply (wp_xfer m K (dev10_eq c) (sS := sendS 2) (sR := recvS 2) rfl rfl) $$ [HO Hs]
  · isplitr; · iexact HR
    isplitl [HO] <;> iassumption
  iintro ⟨HO, Hc2, Hs⟩
  iapply (wp_xfer m K (dev11_eq c) (sS := sendS 3) (sR := recvS 3) rfl rfl) $$ [HO Hs]
  · isplitr; · iexact HR
    isplitl [HO] <;> iassumption
  iintro ⟨HO, Hc3, Hs⟩
  iapply (wp_xfer m K (dev12_eq c) (sS := sendS 4) (sR := recvS 4) rfl rfl) $$ [HO Hs]
  · isplitr; · iexact HR
    isplitl [HO] <;> iassumption
  iintro ⟨HO, Hc4, Hs⟩
  iapply (wp_xfer m K (dev13_eq c) (sS := sendS 5) (sR := recvS 5) rfl rfl) $$ [HO Hs]
  · isplitr; · iexact HR
    isplitl [HO] <;> iassumption
  iintro ⟨HO, Hc5, Hs⟩
  iapply (wp_xfer m K (dev14_eq c) (sS := sendS 6) (sR := recvS 6) rfl rfl) $$ [HO Hs]
  · isplitr; · iexact HR
    isplitl [HO] <;> iassumption
  iintro ⟨HO, Hc6, Hs⟩
  rw [← uFill_zero m c f1]
  iapply (wp_ublk m f1 0 0 1 rfl rfl (off := ![0, 0]) rfl (w := ublk m c 0) rfl) $$ Hu; iintro Hu
  iapply (wp_ublk m f1 1 1 2 rfl rfl (off := ![0, 64]) rfl (w := ublk m c 1) rfl) $$ Hu; iintro Hu
  iapply (wp_ublk m f1 2 2 3 rfl rfl (off := ![0, 128]) rfl (w := ublk m c 2) rfl) $$ Hu; iintro Hu
  iapply (wp_ublk m f1 3 3 4 rfl rfl (off := ![0, 192]) rfl (w := ublk m c 3) rfl) $$ Hu; iintro Hu
  iapply (wp_ublk m f1 4 4 5 rfl rfl (off := ![0, 256]) rfl (w := ublk m c 4) rfl) $$ Hu; iintro Hu
  iapply (wp_ublk m f1 5 5 6 rfl rfl (off := ![0, 320]) rfl (w := ublk m c 5) rfl) $$ Hu; iintro Hu
  iapply (wp_ublk m f1 6 6 7 rfl rfl (off := ![0, 384]) rfl (w := ublk m c 6) rfl) $$ Hu; iintro Hu
  iapply (wp_ublk m f1 7 7 8 rfl rfl (off := ![0, 448]) rfl (w := ublk m c 7) rfl) $$ Hu; iintro Hu
  ihave Hl := (wait_res (F := F) c) $$ [Hc0 Hc1 Hc2 Hc3 Hc4 Hc5 Hc6 HaS HcR HaR]
  · isplitl [Hc0 Hc1 Hc2 Hc3 Hc4 Hc5 Hc6]
    · iapply (each_eq (F := F) fun j => cred (tallyAt (sendCell c j) () N))
      isplitl [Hc0]; · iexact Hc0
      isplitl [Hc1]; · iexact Hc1
      isplitl [Hc2]; · iexact Hc2
      isplitl [Hc3]; · iexact Hc3
      isplitl [Hc4]; · iexact Hc4
      isplitl [Hc5] <;> iassumption
    isplitl [HaS]; · iexact HaS
    isplitl [HcR] <;> iassumption
  rw [show oSend c [] = 0 from rfl]
  iapply (wp_waits m K (j := 0) (sS := sendS 0) (sR := recvS 0) rfl rfl) $$ [HO Hl]
  · isplitr; · iexact HR
    isplitl [HO] <;> iassumption
  iintro ⟨HO, Hg0, Hl⟩
  iapply (wp_waits m K (j := 1) (sS := sendS 1) (sR := recvS 1) rfl rfl) $$ [HO Hl]
  · isplitr; · iexact HR
    isplitl [HO] <;> iassumption
  iintro ⟨HO, Hg1, Hl⟩
  iapply (wp_waits m K (j := 2) (sS := sendS 2) (sR := recvS 2) rfl rfl) $$ [HO Hl]
  · isplitr; · iexact HR
    isplitl [HO] <;> iassumption
  iintro ⟨HO, Hg2, Hl⟩
  iapply (wp_waits m K (j := 3) (sS := sendS 3) (sR := recvS 3) rfl rfl) $$ [HO Hl]
  · isplitr; · iexact HR
    isplitl [HO] <;> iassumption
  iintro ⟨HO, Hg3, Hl⟩
  iapply (wp_waits m K (j := 4) (sS := sendS 4) (sR := recvS 4) rfl rfl) $$ [HO Hl]
  · isplitr; · iexact HR
    isplitl [HO] <;> iassumption
  iintro ⟨HO, Hg4, Hl⟩
  iapply (wp_waits m K (j := 5) (sS := sendS 5) (sR := recvS 5) rfl rfl) $$ [HO Hl]
  · isplitr; · iexact HR
    isplitl [HO] <;> iassumption
  iintro ⟨HO, Hg5, Hl⟩
  iapply (wp_waits m K (j := 6) (sS := sendS 6) (sR := recvS 6) rfl rfl) $$ [HO Hl]
  · isplitr; · iexact HR
    isplitl [HO] <;> iassumption
  iintro ⟨HO, Hg6, Hl⟩
  ihave Hg := (waits_got m c) $$ [Hg0 Hg1 Hg2 Hg3 Hg4 Hg5 Hg6]
  · iapply (each_eq (waitGot m c))
    isplitl [Hg0]; · iexact Hg0
    isplitl [Hg1]; · iexact Hg1
    isplitl [Hg2]; · iexact Hg2
    isplitl [Hg3]; · iexact Hg3
    isplitl [Hg4]; · iexact Hg4
    isplitl [Hg5] <;> iassumption
  icases Hg with ⟨Hst, HzS, HzR⟩
  ihave Hu := (Entails.of_eq (congrArg (fun g => scr c cc0_scratch1 g) (uFill_all m c f1))) $$ Hu
  unfold scr
  iapply (wp_load 𝒱₀ (c : Thread nD τ) none Set.univ (m := stM) (Finset.subset_univ _)) $$ Hst; iintro Hst
  iapply (wp_load 𝒱₀ (c : Thread nD τ) none Set.univ (m := uM) (Finset.subset_univ _)) $$ Hu; iintro Hu
  iapply (wp_load 𝒱₀ (c : Thread nD τ) none Set.univ (m := oM) (Finset.subset_univ _)) $$ Hout; iintro Hout
  iapply (wp_store 𝒱₀ (c : Thread nD τ) none Set.univ (m := oM) (r := Rect.unit (s := S256x256) ![0, 0] S256x256.size inb_S256x256_S256x256_0_0)
    (Mk := Finset.univ) (Finset.subset_univ _)) $$ Hout; iintro Hout
  rw [write_o, read_st, read_u, wp_ret]; imodintro
  iapply Hk
  unfold bodyPost Φ₁ scr outAt
  isplitl [Hst Hu HzB HzS HzR]
  · isplitl [Hst Hu]
    · isplitl [Hst] <;> iassumption
    isplitl [HzB]; · iexact HzB
    isplitl [HzS] <;> iassumption
  isplitl [HO]; · iexact HO
  isplitl [Hx]; · iexact Hx
  isplitl [Hi]; · iexact Hi
  isplitl [Hw] <;> iassumption

end Body

end Cert.Dispatch

end
-- ==== Proof.Run.lean ====
/-
The run of the kernel on the eight devices.
-/
module

public import proofs.«01_k».proof.Proof.Body
public import Idealize.ShloMosaic.Lib.Pipeline.CollectiveSegs

@[expose] public section

noncomputable section

namespace Cert.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation to the pipeline -/

section Obligation
set_option maxRecDepth 4000

def obPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def obPost (c : Dev nD) : sProp 𝕄 :=
  iprop(Φ₁ m c ∗ (dats m 0 c).owesAt () t0_0.succ
    ∗ stg c cc0_stg0_0 (xstg m c) ∗ stg c cc0_stg1_0 (istg m c) ∗ stg c cc0_stg2_0 (wstg m c) ∗ stg c cc0_stg3_0 (outAt m c))

theorem before_x (c : Dev nD) (d) : (dats m 0 c).before (0 : Fin 4) t0_0 d = xstg m c := by
  unfold Dat.before; rw [if_pos (fetch0_0 t0_0)]; rfl
theorem before_i (c : Dev nD) (d) : (dats m 0 c).before (1 : Fin 4) t0_0 d = istg m c := by
  unfold Dat.before; rw [if_pos (fetch0_1 t0_0)]; rfl
theorem before_w (c : Dev nD) (d) : (dats m 0 c).before (2 : Fin 4) t0_0 d = wstg m c := by
  unfold Dat.before; rw [if_pos (fetch0_2 t0_0)]; rfl

theorem ob_pre (c : Dev nD) : obPre m c ⊢ iprop(∃ K, bodyPre m K c) := by
  unfold obPre Φ₀ start bodyPre scr stg Dat.owesAt Pipeline.owesWithin owesE
  rw [show (dats m 0 c).owed t0_0.castSucc = O₀ c from rfl]
  simp only [before_x, before_i, before_w]
  iintro ⟨⟨⟨⟨%K, HR, Hl⟩, Hc, Hv⟩, Hs⟩, ⟨%W, %hW, HO⟩, ⟨%d0, %f0, %e0, Hx⟩, ⟨%d1, %f1, %e1, Hi⟩, ⟨%d2, %f2, %e2, Hw⟩, ⟨%d3, %f3, %e3, Ho⟩⟩
  subst e0 e1 e2
  iexists K
  isplitl [HR Hv Hl Hc HO]
  · isplitl [HR]; · iexact HR
    isplitl [Hv]; · iexact Hv
    isplitl [Hl]; · iexact Hl
    isplitl [Hc]; · iexact Hc
    iexists W; iexact HO
  isplitl [Hs]; · iexact Hs
  isplitl [Hx]; · iexact Hx
  isplitl [Hi]; · iexact Hi
  isplitl [Hw]; · iexact Hw
  iexists f3; iexact Ho

theorem ob_post (c : Dev nD) : bodyPost m c ⊢ obPost m c := by
  unfold obPost bodyPost scr stg Dat.owesAt Pipeline.owesWithin owesE
  rw [show (dats m 0 c).owed t0_0.succ = 0 from rfl]
  iintro ⟨HΦ, ⟨%W, HO⟩, Hx, Hi, Hw, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Ho

theorem body_obligation (c : Dev nD) : BodyObligation (dats (F := F) m 0 c) (defs₀ (F := F)) 𝒱₀ () Set.univ := fun t => by
  rw [fin_N0 t]
  rw [bigSep_W0, bigSep_W0]
  simp only [owns_stg, owns_whole_eq]
  show obPre m c ⊢ wpc c (cc0_body xM (Memref.isWhole_whole _) iM (Memref.isWhole_whole _) wM (Memref.isWhole_whole _) oM (Memref.isWhole_whole _)
            stM (Memref.isWhole_whole _) uM (Memref.isWhole_whole _) cc0_scratch2 cc0_scratch3) (fun _ => obPost m c)
  refine (ob_pre m c).trans ?_
  iintro ⟨%K, H⟩
  iapply (sound_body m K c fun _ => obPost m c)
  isplitl [H]; · iexact H
  iintro H; iapply (ob_post m c); iexact H

end Obligation

/-! ## The cells and tokens dealt at launch -/

/-- The kernel's own semaphores: the send then the receive semaphores. -/
abbrev osem : Fin 14 → SemLoc sig := fun k => .dma ⟨4 + k.val, by have := k.isLt; show 4 + k.val < 18; omega⟩

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 15 → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def cellsAt : Finset (GSem nD τ sig) := Finset.univ.map ⟨kcell, kcell_injective⟩

/-- The duties of one device's cells: its barrier's seven, one per send cell, one per receive cell. -/
abbrev tokAt : Fin 3 × Fin 7 → SemLoc sig × Fin 7 := fun p => match p.1 with
  | 0 => (.reg barS, p.2) | 1 => (.dma (sendS p.2), 0) | 2 => (.dma (recvS p.2), 0)
theorem tokAt_injective : Function.Injective tokAt := by decide
abbrev tokOf (x : Dev nD × Fin 3 × Fin 7) : GSem nD τ sig × ℕ × Fin 7 := (((x.1 : Thread nD τ), (tokAt x.2).1), 0, (tokAt x.2).2)
theorem tokOf_injective : Function.Injective (tokOf : Dev nD × Fin 3 × Fin 7 → GSem nD τ sig × ℕ × Fin 7) := by
  rintro ⟨c, k⟩ ⟨c', k'⟩ h
  have h1 : c = c' := by have := congrArg (fun g : GSem nD τ sig × ℕ × Fin 7 => g.1.1.1) h; exact this
  have h2 : k = k' := tokAt_injective (Prod.ext (congrArg (fun g : GSem nD τ sig × ℕ × Fin 7 => g.1.2) h) (congrArg (fun g : GSem nD τ sig × ℕ × Fin 7 => g.2.2) h))
  rw [h1, h2]
def toksAt : Finset (GSem nD τ sig × ℕ × Fin 7) := Finset.univ.map ⟨tokOf, tokOf_injective⟩

def u₀ : UU := (initOf (Pipeline.cells cfgs cellOf_inj) (Pipeline.launchToks cfgs cellOf_inj), initOf cellsAt toksAt)

/-- The duty tokens of device `c`'s own cells. -/
def toks (c : Dev nD) : sProp 𝕄 :=
  iprop((bigSep Finset.univ fun j : Fin 7 => dutyTok ER (barCell c) 0 j)
    ∗ (bigSep Finset.univ fun j : Fin 7 => dutyTok ER (sendCell c j) 0 0)
    ∗ bigSep Finset.univ fun j : Fin 7 => dutyTok ER (recvCell c j) 0 0)

/-- What the launch deals device `c`, and what the global step makes of it. -/
def G (c : Dev nD) : sProp 𝕄 :=
  iprop((bigSep Finset.univ fun k : Fin 15 => roundState ER (rd m) (kcell (c, k)) 0)
    ∗ (bigSep Finset.univ fun k : Fin 15 => iprop(atPos ER (kcell (c, k)) 0 ∅ 0 ∗ reached ER (kcell (c, k)) 0)) ∗ toks c)
def G' (c : Dev nD) : sProp 𝕄 := iprop(∃ K, records m K ∗ linear (F := F) c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_offs (Φ : Fin 7 → sProp 𝕄) : bigSep Finset.univ Φ = bigSepL offs Φ := bigSep_univ_eq_bigSepL offs offs_univ offs_nodup Φ

omit [FloatOps F] in
/-- Something at each of a device's cells: at the barrier's, the send cells and the receive cells. -/
theorem bigSep_cells (c : Dev nD) (Φ : GSem nD τ sig → sProp 𝕄) :
    (bigSep Finset.univ fun k : Fin 15 => Φ (kcell (c, k)))
      = iprop(Φ (barCell c) ∗ (bigSepL offs fun j => Φ (sendCell c j)) ∗ bigSepL offs fun j => Φ (recvCell c j)) := by
  rw [bigSep_univ_eq_bigSepL (0 :: (offs.map sendK ++ offs.map recvK)) (by decide) (by decide), bigSepL_cons', bigSepL_append, bigSepL_map, bigSepL_map]
  simp only [kcell, csem_send, csem_recv]
  rfl

theorem fund : BI.own (ER (initOf cellsAt toksAt)) ⊢ (|==> bigSep Finset.univ (G m) : sProp 𝕄) := by
  have hX (Φ : GSem nD τ sig → sProp 𝕄) : bigSep cellsAt Φ = bigSep Finset.univ fun c : Dev nD => bigSep Finset.univ fun k : Fin 15 => Φ (kcell (c, k)) := by
    unfold cellsAt; rw [bigSep_map, bigSep_univ_prod]; rfl
  have hT : bigSep toksAt (fun x => (dutyTok ER x.1 x.2.1 x.2.2 : sProp 𝕄)) = bigSep Finset.univ fun c : Dev nD => toks c := by
    unfold toksAt; rw [bigSep_map, bigSep_univ_prod]
    exact bigSep_congr fun c _ => by unfold toks; rw [bigSep_univ_prod, bigSep_three]; rfl
  iintro HX
  imod (Rounds.fund ER (rd m) cellsAt toksAt) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSepL offs fun j => semVal (sendCell c j) 0) ∗ bigSepL offs fun j => semVal (recvCell c j) 0) := by
  rw [Pipeline.ownSems0_eq_of_list c osem (offs.map (Fin.castAdd 7) ++ offs.map (Fin.natAdd 7)) (by decide) (by decide),
    bigSepL_append, bigSepL_map, bigSepL_map]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, bigSep_cells c fun g => semVal g 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat] <;> iassumption

/-- A barrier's duty names the offset back to the device that pays it; -/
def barDeal : Dev nD × Fin 7 ≃ Dev nD × Fin 7 where
  toFun p := (peer p.1 p.2, p.2.rev)
  invFun p := (peer p.1 p.2, p.2.rev)
  left_inv p := Prod.ext (peer_back p.2 p.1) (Fin.rev_rev p.2)
  right_inv p := Prod.ext (peer_back p.2 p.1) (Fin.rev_rev p.2)
/-- a receive cell's duty is the sender's. -/
def recvDeal : Dev nD × Fin 7 ≃ Dev nD × Fin 7 where
  toFun p := (peer p.1 p.2, p.2)
  invFun p := (orig p.1 p.2, p.2)
  left_inv p := Prod.ext (orig_peer p.2 p.1) rfl
  right_inv p := Prod.ext (peer_orig p.2 p.1) rfl

omit [FloatOps F] in
theorem dealt_around (e : Dev nD × Fin 7 ≃ Dev nD × Fin 7) (Φ : Dev nD → Fin 7 → sProp 𝕄) :
    (bigSep Finset.univ fun c : Dev nD => bigSep Finset.univ fun j : Fin 7 => Φ c j)
      = bigSep Finset.univ fun c : Dev nD => bigSepL offs fun j => Φ (e (c, j)).1 (e (c, j)).2 := by
  rw [← bigSep_univ_prod (fun x : Dev nD × Fin 7 => Φ x.1 x.2), bigSep_univ_equiv e (fun x : Dev nD × Fin 7 => Φ x.1 x.2), bigSep_univ_prod]
  exact bigSep_congr fun c _ => bigSep_offs _

/-- The tokens of the duties device `c` pays. -/
def payToks (c : Dev nD) : sProp 𝕄 :=
  iprop((bigSepL offs fun j => dutyTok ER (barCell (peer c j)) 0 j.rev)
    ∗ bigSepL offs fun j => iprop(dutyTok ER (sendCell c j) 0 0 ∗ dutyTok ER (recvCell (peer c j) j) 0 0))

omit [FloatOps F] in
theorem toks_around : (bigSep Finset.univ fun c : Dev nD => (toks c : sProp 𝕄)) ⊢ bigSep Finset.univ fun c : Dev nD => payToks c := by
  unfold toks payToks
  simp only [each_sep, bigSep_sep']
  rw [dealt_around barDeal fun c j => dutyTok ER (barCell c) 0 j, dealt_around recvDeal fun c j => dutyTok ER (recvCell c j) 0 0]
  simp only [bigSep_offs]
  exact .rfl

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) :
    iprop(records m K ∗ (bigSep Finset.univ fun k : Fin 15 => atPos ER (kcell (c, k)) 0 ∅ 0) ∗ payToks c) ⊢ G' m c := by
  rw [bigSep_cells c fun g => atPos ER g 0 ∅ 0]
  unfold G' linear payToks
  iintro ⟨HR, H⟩
  iexists K
  isplitl [HR] <;> iassumption

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (rd m) κ (kcell ck) : sProp 𝕄))) $$ HI
  icases HK with ⟨%K, #HI⟩
  ihave Htk := (toks_around (F := F)) $$ Htok
  iapply (bigSep_beside (R := records m K) fun c _ => ghost_intro m K c)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_iff {a b : Dev nD} : Iff (barCell a = barCell b) (a = b) :=
  ⟨fun h => Fin.ext (congrArg (fun g : GSem nD τ sig => g.1.1.val) h), fun h => h ▸ rfl⟩
theorem recvS_injective : Function.Injective recvS := by decide
theorem recv_iff {a b : Dev nD} {i j : Fin 7} : Iff (recvCell a i = recvCell b j) (a = b ∧ i = j) :=
  ⟨fun h => ⟨Fin.ext (congrArg (fun g : GSem nD τ sig => g.1.1.val) h),
    recvS_injective (by have := congrArg Prod.snd h; exact SemLoc.dma.inj this)⟩, fun h => by rw [h.1, h.2]⟩
theorem bar_ne_recv (a b : Dev nD) (j : Fin 7) : barCell a ≠ recvCell b j := fun h => by cases congrArg Prod.snd h

theorem oSend_bar (d c : Dev nD) : ∀ l, oSend d l (barCell c) () = 0
  | [] => rfl
  | j :: l => by
    unfold oSend
    rw [Pi.add_apply, Finsupp.add_apply, oSend_bar d c l, tallyAt_ne_cell (bar_ne_recv _ _ _), Finsupp.zero_apply, Nat.zero_add]

/-- What device `d` owes device `c`'s barrier: a unit per offset from `d` to `c`. -/
theorem oSig_bar (d c : Dev nD) : ∀ l, oSig d l (barCell c) () = (l.map fun j => if c = peer d j then 1 else 0).sum
  | [] => oSend_bar d c offs
  | j :: l => by
    unfold oSig
    rw [Pi.add_apply, Finsupp.add_apply, oSig_bar d c l, tallyAt_apply, List.map_cons, List.sum_cons, Nat.add_comm]
    simp only [bar_iff, and_true]

theorem oSend_recv (d c : Dev nD) (j : Fin 7) :
    ∀ l, oSend d l (recvCell c j) () = (l.map fun i => if c = peer d i ∧ j = i then 1 else 0).sum * N
  | [] => (Nat.zero_mul N).symm
  | i :: l => by
    unfold oSend
    rw [Pi.add_apply, Finsupp.add_apply, oSend_recv d c j l, tallyAt_apply, List.map_cons, List.sum_cons, Nat.add_mul, Nat.add_comm]
    simp only [recv_iff, and_true, ite_mul, Nat.one_mul, Nat.zero_mul]

theorem oSig_recv (d c : Dev nD) (j : Fin 7) : ∀ l, oSig d l (recvCell c j) () = oSend d offs (recvCell c j) ()
  | [] => rfl
  | i :: l => by
    unfold oSig
    rw [Pi.add_apply, Finsupp.add_apply, oSig_recv d c j l, tallyAt_ne_cell (fun h => bar_ne_recv _ _ _ h.symm), Finsupp.zero_apply, Nat.add_zero]

theorem bar_units : ∀ c : Dev nD, (∑ d : Dev nD, (offs.map fun j => if c = peer d j then 1 else 0).sum) = 7 := by decide
theorem recv_units : ∀ (c : Dev nD) (j : Fin 7), (∑ d : Dev nD, (offs.map fun i => if c = peer d i ∧ j = i then 1 else 0).sum) = 1 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  unfold O₀
  rw [Finset.sum_congr rfl fun d _ => oSig_bar d c offs, bar_units]

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  unfold O₀
  rw [Finset.sum_congr rfl fun d _ => (oSig_recv d c j offs).trans (oSend_recv d c j offs),
    ← Finset.sum_mul, recv_units, Nat.one_mul]

omit [FloatOps F] in
theorem creds (c : Dev nD) : (Pipeline.launchCred O₀ c : sProp 𝕄) ⊢ credits (F := F) c := by
  unfold Pipeline.launchCred credits
  rw [bigSep_univ_at _ (SemLoc.reg barS), launch_bar]
  refine sep_mono_right ?_
  refine (bigSep_subset (t := Finset.univ.map ⟨fun j => SemLoc.dma (recvS j), fun i j h => recvS_injective (SemLoc.dma.inj h)⟩) fun x hx => ?_).trans ?_
  · obtain ⟨j, -, rfl⟩ := Finset.mem_map.mp hx
    exact Finset.mem_erase.mpr ⟨fun h => (by cases h), Finset.mem_univ _⟩
  · rw [bigSep_map, bigSep_offs]
    exact bigSepL_mono fun j _ => Entails.of_eq (congrArg cred (launch_recv c j))

/-! ## The launch's side conditions -/

/-- The one argument no window stages, held beside the region. -/
def kept (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept m c) := by
  rw [Pipeline.unscopedRestP_none, unscopedRest0_eq]
  iintro ⟨Hk, Hlev, Hcr, -, HG⟩
  ihave Hc := (creds (F := F) c) $$ Hcr
  imodintro
  unfold start G' kept
  isplitr [Hk]
  · isplitl [HG]; · iexact HG
    isplitl [Hc] <;> iassumption
  · iexact Hk

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scr
  iintro ⟨⟨Hr, Hu⟩, HzB, Hz⟩
  isplitl [HzB]; · iexact HzB
  isplitl [Hz]; · iexact Hz
  isplitl [Hr]
  · iexists _; iexact Hr
  · iexists _; iexact Hu

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the windows' arrays hold in the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- For any float values, from any memory with zero counters: every weakly fair execution of @main on the eight devices
    terminates, each window's array then at its computed contents, the argument no window stages unchanged and every
    semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := kept m)
    (hX := start_intro m ρ) (hin := phi0_intro m) (hout := phi1_exit m)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold kept
      iintro ⟨Hu, Hk, HSI⟩
      icombine HSI Hk gives %hk
      imod (Pipeline.unscopedSems0_read (X := unscopedSems0 c) (c := c) fupd_intro s') $$ [Hu HSI] with ⟨%hz, HSI⟩
      · isplitl [Hu] <;> iassumption
      imodintro
      isplitr
      · ipureintro; exact ⟨Buf.eq_of_forall_mem_univ hk, hz⟩
      iexact HSI)
    (hQ := fun _ h hs => ⟨fun c => ⟨fun w => (h c).1 w, (h c).2.2.1⟩, sem_eq_zero hs fun c => (h c).2.2.2⟩)

/-! ## The arguments afterwards -/

theorem final_x (c : Dev nD) : finalA m c (0 : Fin 4) = m (win0_0.arr.view.loc (c : Thread nD τ)) := (dats (F := F) m 0 c).arrAt_in (0 : Fin 4) rfl _
theorem final_i (c : Dev nD) : finalA m c (1 : Fin 4) = m (win0_1.arr.view.loc (c : Thread nD τ)) := (dats (F := F) m 0 c).arrAt_in (1 : Fin 4) rfl _
theorem final_w (c : Dev nD) : finalA m c (2 : Fin 4) = m (win0_2.arr.view.loc (c : Thread nD τ)) := (dats (F := F) m 0 c).arrAt_in (2 : Fin 4) rfl _

theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans (final_x m c), (h c).2, ((h c).1 (1 : Fin 4)).trans (final_i m c), ((h c).1 (2 : Fin 4)).trans (final_w m c)⟩

end Cert.Dispatch

end
-- ==== Proof.Frames.lean ====
/-
The frames of the kernel, of its ideal reading and of the reference, and the side conditions of the precondition.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Dispatch

open Idealize.ShloMosaic Idealize.ShloMosaic.TcCoe Idealize.SL.Sem

/-- The shape relations of the precondition over one device's arguments. -/
instance preFacts : Cert.Pre_routed_KernelIdeal.Facts where
  bcast_S8_S1x8_1 := by decide
  bcast_S_S1x8 := by decide
  bcast_S256x1_S256x8_0_1 := by decide
  bcast_S1x8_S256x8_0_1 := by decide
  natLt_1_32 := by decide
  reducesTo_S256x8_S8_d0 := by decide
  h_S_ := by decide
  bcast_S_S256x1 := by decide
  bcast_S_S8 := by decide

/-- The shape relations of the precondition over the whole arguments. -/
instance preFactsRef : Cert.Pre_routed_ReferenceIdeal.Facts where
  bcast_S8_S1x8_1 := by decide
  bcast_S_S1x8 := by decide
  bcast_S256x1_S256x8_0_1 := by decide
  bcast_S1x8_S256x8_0_1 := by decide
  natLt_1_32 := by decide
  reducesTo_S256x8_S8_d0 := by decide
  h_S_ := by decide
  bcast_S_S256x1 := by decide
  bcast_S_S8 := by decide

/-- The run read at the argument arrays, at any float type. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun _ h => ⟨fun c => args_kept m h.1 c, h.2⟩) (run_main (F := F) m ρ)

/-- The two printed body tables, one of each program, are one: label by label the same body. -/
theorem defs0_same {F : FTy → Type} [FloatOps F] : Cert.Kernel.defs₀ (F := F) = Cert.KernelIdeal.defs₀ (F := F) := by
  funext k l a
  cases k with
  | tc =>
    match l, a with
    | 0, (t, s) => rfl
    | ⟨n + 1, h⟩, _ => exact absurd h (by omega)
  | scScalar _ => rfl
  | scVector _ _ => rfl

theorem defs_same {F : FTy → Type} [FloatOps F] : Cert.Kernel.defs (F := F) = Cert.KernelIdeal.defs (F := F) :=
  congrArg (Pipeline.defs Cert.KernelIdeal.pcfgs) defs0_same

/-- The kernel's frame at bit patterns. -/
theorem frame_kernel : Cert.quiescent_Kernel := fun m ρ _ => by
  rw [defs_same]
  exact frame_any (F := Bits) m ρ

/-- The kernel's frame at extended reals. -/
theorem frame_ideal : Cert.quiescent_KernelIdeal := fun m ρ _ =>
  frame_any (F := Ideal) m ρ

/-- The same frame under the precondition, which it does not use. -/
theorem frame_ideal_pre : Cert.quiescent_KernelIdeal_pre_routed_KernelIdeal := fun m ρ _ => frame_ideal m ρ trivial

/-- The reference's frame: its run, and its counters because it declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same frame under the precondition, which it does not use. -/
theorem frame_ref_pre : Cert.quiescent_ReferenceIdeal_pre_routed_ReferenceIdeal := fun m ρ _ => frame_ref m ρ trivial

end Cert.Dispatch

end
-- ==== Proof.Ranks.lean ====
/-
Ranks: the tokens of one owner are numbered in order, the numbering is one to one, and a sum weighted by the indicator of one (owner, number) pair is the term of the token so numbered.
-/
module

public import Idealize.ShloMosaic.Lib.Pointwise

@[expose] public section

noncomputable section

namespace Cert.Dispatch

variable {n : ℕ}

/-- How many tokens before `i` have owner `s`. -/
def rank (D : Fin n → ℕ) (s : ℕ) (i : Fin n) : ℕ := (Finset.univ.filter fun j : Fin n => j < i ∧ D j = s).card

/-- Token `i` is owned by `s` and is its `k`-th. -/
def Hot (D : Fin n → ℕ) (s k : ℕ) (i : Fin n) : Prop := D i = s ∧ rank D s i = k

instance (D : Fin n → ℕ) (s k : ℕ) (i : Fin n) : Decidable (Hot D s k i) := by unfold Hot; infer_instance

/-- The number of an owned token is below the number of tokens its owner has. -/
theorem rank_lt (D : Fin n → ℕ) {s : ℕ} {i : Fin n} (h : D i = s) : rank D s i < (Finset.univ.filter fun j : Fin n => D j = s).card := by
  refine Finset.card_lt_card ⟨fun j hj => ?_, fun hsub => ?_⟩
  · simp only [Finset.mem_filter, Finset.mem_univ, true_and] at hj ⊢
    exact hj.2
  · have := hsub (Finset.mem_filter.2 ⟨Finset.mem_univ i, h⟩)
    simp only [Finset.mem_filter] at this
    exact lt_irrefl i this.2.1

theorem rank_le (D : Fin n → ℕ) (s : ℕ) (i : Fin n) : rank D s i ≤ n :=
  (Finset.card_le_univ _).trans (by simp)

/-- A later token of the same owner has a larger number. -/
theorem rank_mono (D : Fin n → ℕ) {s : ℕ} {i j : Fin n} (hi : D i = s) (hij : i < j) : rank D s i < rank D s j := by
  refine Finset.card_lt_card ⟨fun a ha => ?_, fun hsub => ?_⟩
  · simp only [Finset.mem_filter, Finset.mem_univ, true_and] at ha ⊢
    exact ⟨ha.1.trans hij, ha.2⟩
  · have := hsub (Finset.mem_filter.2 ⟨Finset.mem_univ i, hij, hi⟩)
    simp only [Finset.mem_filter] at this
    exact lt_irrefl i this.2.1

/-- At most one token is the `k`-th of `s`. -/
theorem hot_unique (D : Fin n → ℕ) {s k : ℕ} {i j : Fin n} (hi : Hot D s k i) (hj : Hot D s k j) : i = j := by
  rcases lt_trichotomy i j with h | h | h
  · exact absurd (rank_mono D hi.1 h) (by rw [hi.2, hj.2]; exact lt_irrefl k)
  · exact h
  · exact absurd (rank_mono D hj.1 h) (by rw [hi.2, hj.2]; exact lt_irrefl k)

/-- Weighting by the indicator of "the `k`-th of `s`" picks that token's term, whatever the terms are. -/
theorem sum_hot (D : Fin n → ℕ) {s k : ℕ} {i : Fin n} (h : Hot D s k i) (f : Fin n → EReal) :
    ∑ j : Fin n, (if Hot D s k j then (1 : EReal) else 0) * f j = f i := by
  rw [Finset.sum_eq_single i]
  · rw [if_pos h, one_mul]
  · intro j _ hj
    rw [if_neg fun hh => hj (hot_unique D hh h), zero_mul]
  · exact fun hh => absurd (Finset.mem_univ i) hh

/-- The place of token `i` among `b` owners' slots of `a` rows. -/
theorem place_lt {D : Fin n → ℕ} {i : Fin n} {a b : ℕ} (hD : D i < b) (hr : rank D (D i) i < a) : a * D i + rank D (D i) i < a * b := by
  calc a * D i + rank D (D i) i < a * D i + a := by omega
    _ = a * (D i + 1) := by ring
    _ ≤ a * b := Nat.mul_le_mul_left a hD

/-- Over all slots and rows, weighting by "token `i` is row `q % a` of slot `q / a`" picks the term of its place. -/
theorem sum_place (D : Fin n → ℕ) (i : Fin n) {a b : ℕ} (hD : D i < b) (hr : rank D (D i) i < a) (f : Fin (a * b) → EReal) :
    ∑ q : Fin (a * b), (if Hot D (q.val / a) (q.val % a) i then (1 : EReal) else 0) * f q = f ⟨a * D i + rank D (D i) i, place_lt hD hr⟩ := by
  rw [Finset.sum_eq_single ⟨a * D i + rank D (D i) i, place_lt hD hr⟩]
  · rw [if_pos, one_mul]
    have ha : 0 < a := by omega
    have h1 : (a * D i + rank D (D i) i) / a = D i := by rw [Nat.mul_add_div ha, Nat.div_eq_of_lt hr, add_zero]
    have h2 : (a * D i + rank D (D i) i) % a = rank D (D i) i := by rw [Nat.mul_add_mod, Nat.mod_eq_of_lt hr]
    rw [Hot, h1, h2]
    exact ⟨rfl, rfl⟩
  · intro q _ hq
    rw [if_neg, zero_mul]
    rintro ⟨h1, h2⟩
    refine hq (Fin.ext ?_)
    show q.val = a * D i + rank D (D i) i
    rw [h1, h2, Nat.div_add_mod]
  · exact fun hh => absurd (Finset.mem_univ _) hh

/-- Multiplying a strictly lower triangle of ones with the indicator of "owned by `s`" counts. -/
theorem sum_rank (D : Fin n → ℕ) (s : ℕ) (i : Fin n) :
    ∑ j : Fin n, (if j < i then (1 : EReal) else 0) * (if D j = s then (1 : EReal) else 0) = (rank D s i : ℕ) := by
  have : ∀ j : Fin n, (if j < i then (1 : EReal) else 0) * (if D j = s then (1 : EReal) else 0) = (((if j < i ∧ D j = s then 1 else 0) : ℕ) : EReal) := by
    intro j
    by_cases h1 : j < i <;> by_cases h2 : D j = s <;> simp [h1, h2]
  rw [Finset.sum_congr rfl fun j _ => this j, rank, Finset.card_filter, Nat.cast_sum]

end Cert.Dispatch

end
-- ==== Proof.Entries.lean ====
/-
The kernel's computed arrays read at an entry over the extended reals: owners, numbers within an owner, and the two kinds of indicator matrix.
-/
module

public import proofs.«01_k».proof.Proof.Gen.KernelIdeal.Skeleton
public import proofs.«01_k».proof.Proof.Ranks
public import Idealize.ShloMosaic.Lib.Pointwise

@[expose] public section

noncomputable section

namespace Cert.Dispatch

open Cert.KernelIdeal Cert.KernelIdeal.Gen Idealize.ShloMosaic

set_option maxRecDepth 16384

/-! ## Words -/

/-- The floor of half a small word, as the kernel computes it. -/
theorem half_word : ∀ n : Fin 16, Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 n) 2#32) 0#32))
      (IntOp.subi (IntOp.divsi ArithUnit.vector (BitVec.ofNat 32 n) 2#32) 1#32)
      (IntOp.divsi ArithUnit.vector (BitVec.ofNat 32 n) 2#32) = BitVec.ofNat 32 (n.val / 2) := by
  decide +kernel

/-- The parity of a small word, as the kernel computes it. -/
theorem parity_word : ∀ n : Fin 16, Scalar.select
                  (IntOp.andi
                    (IntOp.xori
                      (IntOp.cmpi CmpIPredicate.slt
                        (IntOp.remsi ArithUnit.vector (BitVec.ofNat 32 n)
                          (Scalar.select (Scalar.cmpi CmpIPredicate.eq 2#32 0#32) 1#32 2#32))
                        0#32)
                      (Scalar.cmpi CmpIPredicate.slt (Scalar.select (Scalar.cmpi CmpIPredicate.eq 2#32 0#32) 1#32 2#32)
                        0#32))
                    (IntOp.cmpi CmpIPredicate.ne
                      (IntOp.remsi ArithUnit.vector (BitVec.ofNat 32 n)
                        (Scalar.select (Scalar.cmpi CmpIPredicate.eq 2#32 0#32) 1#32 2#32))
                      0#32))
                  (IntOp.addi
                    (IntOp.remsi ArithUnit.vector (BitVec.ofNat 32 n)
                      (Scalar.select (Scalar.cmpi CmpIPredicate.eq 2#32 0#32) 1#32 2#32))
                    (Scalar.select (Scalar.cmpi CmpIPredicate.eq 2#32 0#32) 1#32 2#32))
                  (IntOp.remsi ArithUnit.vector (BitVec.ofNat 32 n)
                    (Scalar.select (Scalar.cmpi CmpIPredicate.eq 2#32 0#32) 1#32 2#32)) = BitVec.ofNat 32 (n.val % 2) := by
  decide +kernel

/-- Comparing the words of two small numbers. -/
theorem eq_word {a b : ℕ} (ha : a < 2 ^ 31) (hb : b < 2 ^ 31) :
    IntOp.cmpi CmpIPredicate.eq (BitVec.ofNat 32 a) (BitVec.ofNat 32 b) = if a = b then 1#1 else 0#1 := by
  by_cases h : a = b
  · rw [if_pos h, h]; simp [IntOp.cmpi]
  · have hne : (BitVec.ofNat 32 a == BitVec.ofNat 32 b) = false := beq_eq_false_iff_ne.2 fun e => h (by
      have := congrArg BitVec.toNat e
      simpa [BitVec.toNat_ofNat, Nat.mod_eq_of_lt (show a < 4294967296 by omega), Nat.mod_eq_of_lt (show b < 4294967296 by omega)] using this)
    rw [if_neg h]; simp [IntOp.cmpi, hne]

theorem slt_word {a b : ℕ} (ha : a < 2 ^ 31) (hb : b < 2 ^ 31) :
    IntOp.cmpi CmpIPredicate.slt (BitVec.ofNat 32 a) (BitVec.ofNat 32 b) = if a < b then 1#1 else 0#1 := by
  have hI : ∀ {n : ℕ}, n < 2 ^ 31 → (BitVec.ofNat 32 n).toInt = n := fun {n} hn => by
    rw [BitVec.toInt_eq_msb_cond, BitVec.msb_eq_false_iff_two_mul_lt.mpr (by simp [BitVec.toNat_ofNat]; omega)]
    simp [BitVec.toNat_ofNat]; omega
  by_cases h : a < b
  · rw [if_pos h]; simp [IntOp.cmpi, BitVec.slt, hI ha, hI hb, h]
  · rw [if_neg h]; simp [IntOp.cmpi, BitVec.slt, hI ha, hI hb, h]

/-- A choice on a decided bit. -/
theorem select_ite {α : Type} (p : Prop) [Decidable p] (a b : α) : Scalar.select (if p then 1#1 else 0#1) a b = if p then a else b := by
  by_cases h : p <;> simp [h, Scalar.select]

theorem and_ite (p q : Prop) [Decidable p] [Decidable q] :
    IntOp.andi (if p then 1#1 else 0#1) (if q then 1#1 else 0#1) = if p ∧ q then 1#1 else 0#1 := by
  by_cases h : p <;> by_cases h' : q <;> simp [h, h', IntOp.andi]

/-- A decided bit as a float. -/
theorem float_ite (p : Prop) [Decidable p] :
    (FloatOps.sitofp FTy.f32 (BitVec.setWidth 32 (if p then 1#1 else 0#1)) : Ideal .f32) = (if p then (1 : EReal) else 0) := by
  by_cases h : p
  · rw [if_pos h, if_pos h]; show ((((BitVec.setWidth 32 1#1).toInt : ℤ) : ℝ) : EReal) = 1
    norm_num
  · rw [if_neg h, if_neg h]; show ((((BitVec.setWidth 32 0#1).toInt : ℤ) : ℝ) : EReal) = 0
    norm_num

/-- A small natural number's word. -/
theorem word_nat {a : ℕ} (ha : a < 2 ^ 31) : FloatOps.fptosi (F := Ideal) (φ := .f32) 32 ((a : ℕ) : EReal) = BitVec.ofNat 32 a := by
  show BitVec.ofInt 32 (Ideal.toIntClamped _ _ (((a : ℝ)) : EReal)) = _
  have : Ideal.toIntClamped (-(2 ^ (32 - 1) : Nat)) ((2 ^ (32 - 1) : Nat) - 1) (((a : ℝ)) : EReal) = (a : ℤ) := by
    show max _ (min _ (if (0 : ℝ) ≤ (a : ℝ) then ⌊(a : ℝ)⌋ else ⌈(a : ℝ)⌉)) = _
    rw [if_pos (Nat.cast_nonneg a), Int.floor_natCast]
    push_cast
    omega
  rw [this]
  exact BitVec.ofInt_natCast 32 a

/-! ## Arrays -/

/-- The words name experts below sixteen. -/
def Named (I : IVec S256x1 32) (T : Fin 256 → ℕ) : Prop := ∀ i, I (ix2 i 0) = BitVec.ofNat 32 (T i) ∧ T i < 16

variable {I : IVec S256x1 32} {T : Fin 256 → ℕ}

/-- Each token's owner: half its expert's number. -/
abbrev own (T : Fin 256 → ℕ) : Fin 256 → ℕ := fun i => T i / 2

theorem owner_apply (h : Named I T) (i : Fin 256) : k0_pay3 I 2#32 (ix2 i 0) = BitVec.ofNat 32 (own T i) := by
  pointwise [k0_pay3]
  rw [(h i).1]
  exact half_word ⟨T i, (h i).2⟩

theorem triangle_apply (i j : Fin 256) : k0_pay4 (F := Ideal) (ix2 i j) = if j < i then (1 : EReal) else 0 := by
  pointwise [k0_pay4]
  rw [slt_word (by omega) (by omega), select_ite]
  rfl

/-- The indicator of one owner, multiplied into the triangle and converted back, is the word of the number within that owner. -/
theorem rank_word (h : Named I T) {v : ℕ} (hv : v < 2 ^ 31) (i : Fin 256) :
    FloatOps.fptosi (F := Ideal) (φ := .f32) 32
      (∑ x, k0_pay4 (F := Ideal) (ix2 i x) * FloatOps.sitofp (F := Ideal) .f32 (BitVec.setWidth 32 (IntOp.cmpi CmpIPredicate.eq (k0_pay3 I (2#32) (ix2 x 0)) (BitVec.ofNat 32 v))))
      = BitVec.ofNat 32 (rank (own T) v i) := by
  have e : ∀ x : Fin 256, k0_pay4 (F := Ideal) (ix2 i x) * FloatOps.sitofp (F := Ideal) .f32 (BitVec.setWidth 32 (IntOp.cmpi CmpIPredicate.eq (k0_pay3 I (2#32) (ix2 x 0)) (BitVec.ofNat 32 v)))
      = (if x < i then (1 : EReal) else 0) * (if own T x = v then (1 : EReal) else 0) := fun x => by
    rw [owner_apply h, eq_word (by have := (h x).2; show T x / 2 < 2 ^ 31; omega) hv, triangle_apply, float_ite]
  rw [Finset.sum_congr rfl fun x _ => e x, sum_rank]
  exact word_nat (lt_of_le_of_lt (rank_le _ _ _) (by decide))

/-- A bit that two word comparisons decide, as a choice between one and zero. -/
theorem hot_choice (h : Named I T) {v k : ℕ} (hv : v < 2 ^ 31) (hk : k < 2 ^ 31) (i : Fin 256) :
    Scalar.select (IntOp.andi (IntOp.cmpi CmpIPredicate.eq (BitVec.ofNat 32 (rank (own T) v i)) (BitVec.ofNat 32 k))
      (IntOp.cmpi CmpIPredicate.eq (BitVec.ofNat 32 (own T i)) (BitVec.ofNat 32 v))) (1 : EReal) 0 = if Hot (own T) v k i then (1 : EReal) else 0 := by
  rw [eq_word (lt_of_le_of_lt (rank_le _ _ _) (by decide)) hk, eq_word (by have := (h i).2; show T i / 2 < 2 ^ 31; omega) hv, and_ite, select_ite]
  exact if_congr (by rw [Hot]; exact and_comm) rfl rfl

/-- The packing matrix of the device whose word is `v`. -/
theorem packing_apply (h : Named I T) {v : ℕ} (hv : v < 2 ^ 31) (i : Fin 256) (k : Fin 64) :
    k0_pay5 (F := Ideal) (BitVec.ofNat 32 v) I 2#32 (ix2 i k) = if Hot (own T) v k.val i then (1 : EReal) else 0 := by
  pointwise [k0_pay5]
  rw [rank_word h hv, owner_apply h]
  exact hot_choice h hv (by omega) i

end Cert.Dispatch

end
-- ==== Proof.Blocks.lean ====
/-
The selection matrix, the packed block and the final product, read at an entry over the extended reals.
-/
module

public import proofs.«01_k».proof.Proof.Body
public import proofs.«01_k».proof.Proof.Entries

@[expose] public section

noncomputable section

namespace Cert.Dispatch

open Cert.KernelIdeal Cert.KernelIdeal.Gen Idealize.ShloMosaic

set_option maxRecDepth 16384

variable {I : IVec S256x1 32} {T : Fin 256 → ℕ}

/-- The owners' numbers as the kernel computes them for all eight owners at once. -/
theorem ranks_apply (h : Named I T) (i : Fin 256) (s : Fin 8) :
    k0_pay9 (F := Ideal) (k0_pay3 I 2#32) (k0_pay4 (F := Ideal)) (ix2 i s) = BitVec.ofNat 32 (rank (own T) s.val i) := by
  pointwise [k0_pay9, k0_pay8]
  exact rank_word h (by omega) i

theorem owners_apply (h : Named I T) (i : Fin 256) (s : Fin 8) :
    k0_pay8 (k0_pay3 I 2#32) (ix2 i s) = IntOp.cmpi CmpIPredicate.eq (BitVec.ofNat 32 (own T i)) (BitVec.ofNat 32 s.val) := by
  pointwise [k0_pay8]
  rw [owner_apply h]

/-- Column block `s` of the selection matrix, of any numbers and owner bits. -/
def column (R : IVec S256x8 32) (B : IVec S256x8 1) (s : Fin 8) (i : Fin 256) (k : Fin 64) : EReal :=
  Scalar.select (IntOp.andi (IntOp.cmpi CmpIPredicate.eq (R (ix2 i s)) (BitVec.ofNat 32 k.val)) (B (ix2 i s))) (1 : EReal) 0

theorem column_apply (h : Named I T) (s : Fin 8) (i : Fin 256) (k : Fin 64) :
    column (k0_pay9 (F := Ideal) (k0_pay3 I 2#32) (k0_pay4 (F := Ideal))) (k0_pay8 (k0_pay3 I 2#32)) s i k
      = if Hot (own T) s.val k.val i then (1 : EReal) else 0 := by
  unfold column
  rw [ranks_apply h, owners_apply h]
  exact hot_choice h (by omega) (by omega) i

variable (m : (ℓ : Loc nD τ sig) → Buf (Elt Ideal) ℓ)

/-- Every column block the program stores is the one column of its number. -/
theorem ublk_column (c : Dev nD) (s : Fin 8) (i : Fin 256) (k : Fin 64) :
    ublk (F := Ideal) m c s (ix2 i k)
      = column (k0_pay9 (F := Ideal) (k0_pay3 (k0_pay2 (F := Ideal) (istg m c)) 2#32) (k0_pay4 (F := Ideal))) (k0_pay8 (k0_pay3 (k0_pay2 (F := Ideal) (istg m c)) 2#32)) s i k := by
  unfold ublk column
  fin_cases s <;>
    pointwise [k0_pay10, k0_pay11, k0_pay12, k0_pay13, k0_pay14, k0_pay15, k0_pay16, k0_pay17, k0_pay18]

/-- The selection matrix: row `i` has its one at its owner's slot and its number there. -/
theorem uAll_apply (c : Dev nD) (h : Named (k0_pay2 (F := Ideal) (istg m c)) T) (i : Fin 256) (q : Fin 512) :
    (uAll m c : S256x512.Idx → EReal) (ix2 i q) = if Hot (own T) (q.val / 64) (q.val % 64) i then (1 : EReal) else 0 :=
  (ublk_column m c ⟨q.val / 64, by omega⟩ i ⟨q.val % 64, by omega⟩).trans (column_apply h _ _ _)

/-- The constant the parity is compared with is one half. -/
theorem half_bits : Ideal.ofBits FTy.f32 1056964608#32 = ((1 / 2 : ℝ) : EReal) := by
  simp [Ideal.ofBits, Ideal.ieee]
  rw [← EReal.coe_mul]
  norm_num

theorem half_lt (b : ℕ) (hb : b < 2) : Ideal.ofBits FTy.f32 1056964608#32 < FloatOps.sitofp (F := Ideal) .f32 (BitVec.ofNat 32 b) ↔ b = 1 := by
  rw [half_bits]
  show ((1 / 2 : ℝ) : EReal) < ((((BitVec.ofNat 32 b).toInt : ℤ) : ℝ) : EReal) ↔ _
  rw [EReal.coe_lt_coe_iff]
  interval_cases b <;> norm_num

/-- Row `k` of the block packed with owner `v`, when token `i` is that owner's `k`-th: the token times the one of the owner's two matrices it names. -/
theorem packed_apply (h : Named I T) {v : ℕ} (hv : v < 2 ^ 31) {k : Fin 64} {i : Fin 256} (hot : Hot (own T) v k.val i)
    (X : FVec Ideal S256x128 .f32) (w0 w1 : Vec Ideal S1x128x256 .f32) (e : Fin 256) :
    k0_pay7 (F := Ideal) I (k0_pay5 (F := Ideal) (BitVec.ofNat 32 v) I 2#32) X (constant S64x128 .f32 0x00000000#32) w0 w1 (ix3 0 k e)
      = ∑ d : Fin 128, X (ix2 i d) * (if T i % 2 = 1 then w1 (ix3 0 d e) else w0 (ix3 0 d e)) := by
  pointwise [k0_pay7]
  simp only [(h _).1]
  have par := fun x : Fin 256 => parity_word ⟨T x, (h x).2⟩
  dsimp only at par
  simp only [par, packing_apply h hv, sum_hot (own T) hot]
  rw [if_congr (half_lt (T i % 2) (by omega)) rfl rfl]
  split
  · exact Finset.sum_congr rfl fun d _ => by simp only [Ideal.ofBits_zero_f32, zero_add]
  · exact Finset.sum_congr rfl fun d _ => by simp only [Ideal.ofBits_zero_f32, zero_add]

/-- The final product: at owner and number of token `i` the stage row placed there. -/
theorem product_apply (c : Dev nD) (h : Named (k0_pay2 (F := Ideal) (istg m c)) T) (i : Fin 256) (hr : rank (own T) (own T i) i < 64)
    (S : Vec Ideal S8x64x256 .bf16) (e : Fin 256) :
    k0_pay1 (F := Ideal) S (uAll m c) (ix2 i e) = S (ix3 ⟨own T i, by have := (h i).2; show T i / 2 < 8; omega⟩ ⟨rank (own T) (own T i) i, hr⟩ e) := by
  have hD : own T i < 8 := by have := (h i).2; show T i / 2 < 8; omega
  pointwise [k0_pay1]
  simp only [uAll_apply m c h]
  refine (sum_place (own T) i (a := 64) (b := 8) hD hr _).trans ?_
  congr 1
  refine congrArg₂ (fun a b => ix3 a b e) (Fin.ext ?_) (Fin.ext ?_)
  · show (64 * own T i + rank (own T) (own T i) i) / 64 = own T i
    omega
  · show (64 * own T i + rank (own T) (own T i) i) % 64 = rank (own T) (own T i) i
    omega

end Cert.Dispatch

end
-- ==== Proof.Value.lean ====
/-
The kernel's result over the extended reals, entry by entry.
-/
module

public import proofs.«01_k».proof.Proof.Blocks
public import proofs.«01_k».proof.Proof.Run
public import Idealize.ShloMosaic.Lib.Pipeline.ValueKit
public import Idealize.ShloMosaic.Lib.LayoutAt

@[expose] public section

noncomputable section

namespace Cert.Dispatch

open Cert.KernelIdeal Cert.KernelIdeal.Gen Idealize.ShloMosaic Idealize.ShloMosaic.TcCoe

set_option maxRecDepth 16384

variable {F : FTy → Type} [FloatOps F]

/-- After the run the result array holds what the body leaves in its window. -/
theorem final_o (m : (ℓ : Loc nD τ sig) → Buf (Elt F) ℓ) (c : Dev nD) : finalA m c (3 : Fin 4) = outAt m c := by
  refine (dats (F := F) m 0 c).arrAt_eq_of_after_last (3 : Fin 4) t0_0 (by decide +kernel) _ fun j => ?_
  blk_simp
  rfl

/-- The owner word of device `c` is its number. -/
theorem myWord_eq : ∀ c : Dev nD, myWord c = BitVec.ofNat 32 c.val := by decide +kernel

variable (m : (ℓ : Loc nD τ sig) → Buf (Elt Ideal) ℓ)

/-- A block at index zero starts at zero. -/
theorem zero_block (p q : ℕ) : 0 * p + q = q := by omega

/-- What a device has staged of an argument is the argument. -/
theorem istg_eq (c : Dev nD) : istg m c = m ((c : Thread nD τ).loc main_arg2) := by
  funext i
  unfold istg
  idx_vars i
  blk_ext
  all_goals first | exact zero_block _ _ | rfl

theorem xstg_eq (c : Dev nD) : xstg m c = m ((c : Thread nD τ).loc main_arg0) := by
  funext i
  unfold xstg
  idx_vars i
  blk_ext
  all_goals first | exact zero_block _ _ | rfl

theorem wstg_eq (c : Dev nD) : wstg m c = m ((c : Thread nD τ).loc main_arg3) := by
  funext i
  unfold wstg
  idx_vars i
  blk_ext
  all_goals first | exact zero_block _ _ | rfl

theorem staged_i (c : Dev nD) (i : Fin 256) :
    k0_pay2 (F := Ideal) (istg m c) (ix2 i 0) = (m ((c : Thread nD τ).loc main_arg2) : S256x1.Idx → BitVec 32) (ix2 i 0) := by
  pointwise [k0_pay2]
  rw [istg_eq]

theorem staged_x (c : Dev nD) (i : Fin 256) (d : Fin 128) :
    k0_pay6 (F := Ideal) (xstg m c) (ix2 i d) = (m ((c : Thread nD τ).loc main_arg0) : S256x128.Idx → EReal) (ix2 i d) := by
  pointwise [k0_pay6]
  rw [xstg_eq]

theorem staged_w0 (c : Dev nD) (d : Fin 128) (e : Fin 256) :
    w0 m c (ix3 0 d e) = (m ((c : Thread nD τ).loc main_arg3) : S2x128x256.Idx → EReal) (ix3 0 d e) := by
  unfold w0
  rw [wstg_eq]
  simp only [View.readAt_apply, Memref.view_whole, View.read_whole]
  blk_ext
  all_goals simp [LoadRect.idx, Rect.unit]

theorem staged_w1 (c : Dev nD) (d : Fin 128) (e : Fin 256) :
    w1 m c (ix3 0 d e) = (m ((c : Thread nD τ).loc main_arg3) : S2x128x256.Idx → EReal) (ix3 1 d e) := by
  unfold w1
  rw [wstg_eq]
  simp only [View.readAt_apply, Memref.view_whole, View.read_whole]
  blk_ext
  all_goals simp [LoadRect.idx, Rect.unit]

/-- A device's words name the same experts in its window as in its argument. -/
theorem named_window {I : IVec S256x1 32} {T : Fin 256 → ℕ} (h : Named I T) (c : Dev nD)
    (hI : m ((c : Thread nD τ).loc main_arg2) = I) : Named (k0_pay2 (F := Ideal) (istg m c)) T := fun i => by
  rw [staged_i m c i, hI]
  exact h i

/-- Slot `a` of the stage buffer is what device `a` packed. -/
theorem stage_apply (a : Dev nD) (k : Fin 64) (e : Fin 256) : stageAll m (ix3 a k e) = packed m a (ix3 0 k e) := by
  refine congrArg (packed m a) (funext fun b => ?_)
  match b with
  | ⟨0, _⟩ => rfl
  | ⟨1, _⟩ => rfl
  | ⟨2, _⟩ => rfl

/-- Matrix `b` of device `c`'s block is matrix `2c + b` of the sixteen. -/
theorem block_apply (W : (⟨3, ![16, 128, 256]⟩ : Shape).Idx → EReal) (c : Fin 8) (b : Fin 2) (d : Fin 128) (e : Fin 256) (t : Fin 16)
    (ht : t.val = 2 * c.val + b.val) :
    (Layout.block ⟨3, ![2, 128, 256]⟩ ⟨3, ![16, 128, 256]⟩ 0 8 c W : S2x128x256.Idx → EReal) (ix3 b d e) = W (ix3 t d e) := by
  shard_ext

/-- One entry of the kernel's result: the token's row times the column of the matrix its word names. -/
theorem out_apply {I : IVec S256x1 32} {T : Fin 256 → ℕ} (h : Named I T) (hr : ∀ i, rank (own T) (own T i) i < 64)
    (X : S256x128.Idx → EReal) (W : (⟨3, ![16, 128, 256]⟩ : Shape).Idx → EReal)
    (hX : ∀ c : Dev nD, m ((c : Thread nD τ).loc main_arg0) = X) (hI : ∀ c : Dev nD, m ((c : Thread nD τ).loc main_arg2) = I)
    (hW : ∀ c : Dev nD, m ((c : Thread nD τ).loc main_arg3) = Layout.block ⟨3, ![2, 128, 256]⟩ ⟨3, ![16, 128, 256]⟩ 0 8 c W)
    (c : Dev nD) (i : Fin 256) (e : Fin 256) :
    outAt m c (ix2 i e) = ∑ d : Fin 128, X (ix2 i d) * W (ix3 ⟨T i, (h i).2⟩ d e) := by
  have hT := (h i).2
  unfold outAt
  rw [product_apply m c (named_window m h c (hI c)) i (hr i), stage_apply]
  unfold packed
  rw [myWord_eq]
  refine (packed_apply (named_window m h _ (hI _)) (by show T i / 2 < 2 ^ 31; omega) ⟨rfl, rfl⟩ _ _ _ e).trans ?_
  refine Finset.sum_congr rfl fun d _ => ?_
  rw [staged_x, staged_w0, staged_w1, hX, hW]
  congr 1
  split
  · exact block_apply W ⟨T i / 2, by omega⟩ 1 d e ⟨T i, hT⟩ (by show T i = 2 * (T i / 2) + 1; omega)
  · exact block_apply W ⟨T i / 2, by omega⟩ 0 d e ⟨T i, hT⟩ (by show T i = 2 * (T i / 2) + 0; omega)

end Cert.Dispatch

end
-- ==== Proof.Routed.lean ====
/-
What the precondition says of the words: each names one of the sixteen experts, and no owner has more than sixty-four tokens.
-/
module

public import proofs.«01_k».proof.Proof.Frames
public import proofs.«01_k».proof.Proof.Entries
public import Idealize.ShloMosaic.Lib.StableHlo.Predicate
public import Idealize.ShloMosaic.Lib.Pointwise

@[expose] public section

noncomputable section

namespace Cert.Dispatch

open Cert.Pre_routed_KernelIdeal Idealize.ShloMosaic Idealize.ShloMosaic.StableHlo.Predicate

/-- The expert each token's word names. -/
def expert (I : IVec S256x1 32) (i : Fin 256) : ℕ := (I (ix2 i 0)).toNat

/-- A word that is at least zero and below sixteen, read signed, is below sixteen read unsigned. -/
theorem word_lt (w : BitVec 32) (h : IntOp.andi (IntOp.cmpi .sge w 0#32) (IntOp.cmpi .slt w 16#32) = 1#1) : w.toNat < 16 := by
  unfold IntOp.andi IntOp.cmpi at h
  dsimp only at h
  have : (0#32).sle w = true ∧ w.slt 16#32 = true := by
    revert h
    cases (0#32).sle w <;> cases w.slt 16#32 <;> decide
  obtain ⟨h0, h1⟩ := this
  simp only [BitVec.sle, BitVec.slt, decide_eq_true_eq] at h0 h1
  have e0 : (0#32 : BitVec 32).toInt = 0 := by decide
  have e1 : (16#32 : BitVec 32).toInt = 16 := by decide
  rw [e0] at h0
  rw [e1] at h1
  rw [BitVec.toInt_eq_toNat_cond] at h0 h1
  split at h0 <;> omega

variable {A : FVec Ideal S256x128 .f32} {B : FVec Ideal S128x16 .f32} {I : IVec S256x1 32} {C : FVec Ideal S2x128x256 .f32}

/-- The first answer of the precondition names the experts. -/
theorem named_of_routed (h : (fn (F := Ideal) A B I C).1 = fun _ => 1#1) : Named I (expert I) := fun i => by
  have hi := congrFun h (ix2 i 0)
  have h16 : (I (ix2 i 0)).toNat < 16 := by
    refine word_lt _ ?_
    rw [← hi]
    unfold fn fn_part1
    pointwise []
  exact ⟨by simp [expert], h16⟩

/-- A word below sixteen is the even or the odd expert of owner `s` exactly when its half is `s`. -/
theorem held_word : ∀ (t : Fin 16) (s : Fin 8),
    IntOp.ori (IntOp.cmpi .eq (BitVec.ofNat 32 t.val) (IntOp.muli 2#32 (BitVec.ofNat 32 s.val)))
      (IntOp.cmpi .eq (BitVec.ofNat 32 t.val) (IntOp.addi (IntOp.muli 2#32 (BitVec.ofNat 32 s.val)) 1#32)) = 1#1 ↔ t.val / 2 = s.val := by
  decide +kernel

/-- The first expert of each owner, in a row. -/
def firsts : IVec S1x8 32 :=
  muli (broadcastInDim S1x8 ![] Facts.bcast_S_S1x8 (constantI S_ 32 2#32)) (broadcastInDim S1x8 ![1] Facts.bcast_S8_S1x8_1 (iotaInDim S8 32 0))

/-- Which token names which owner. -/
def held (I : IVec S256x1 32) : IVec S256x8 1 :=
  ori (cmpi .eq (broadcastInDim S256x8 ![0, 1] Facts.bcast_S256x1_S256x8_0_1 I) (broadcastInDim S256x8 ![0, 1] Facts.bcast_S1x8_S256x8_0_1 firsts))
    (cmpi .eq (broadcastInDim S256x8 ![0, 1] Facts.bcast_S256x1_S256x8_0_1 I)
      (broadcastInDim S256x8 ![0, 1] Facts.bcast_S1x8_S256x8_0_1 (addi firsts (broadcastInDim S1x8 ![] Facts.bcast_S_S1x8 (constantI S_ 32 1#32)))))

theorem held_apply (hN : Named I (expert I)) (p : Fin 256) (s : Fin 8) : held I (ix2 p s) = 1#1 ↔ own (expert I) p = s.val := by
  pointwise [held, firsts]
  rw [(hN p).1]
  exact held_word ⟨expert I p, (hN p).2⟩ s

/-- The second answer of the precondition bounds each owner's tokens. -/
theorem count_of_routed (hN : Named I (expert I)) (h : (fn (F := Ideal) A B I C).2 = fun _ => 1#1) (s : Fin 8) :
    (Finset.univ.filter fun i : Fin 256 => own (expert I) i = s.val).card ≤ 64 := by
  have hs : IntOp.cmpi .sle (Host.reduce IntOp.addi (extui 32 (held I) Facts.natLt_1_32) (constantI S_ 32 0#32) Facts.reducesTo_S256x8_S8_d0 Facts.h_S_ (ix1 s))
      64#32 = 1#1 := congrFun h (ix1 s)
  have hcount := toNat_reduce_count_rows (n := 256) (m := 8) (by decide) (held I)
    Facts.natLt_1_32 Facts.reducesTo_S256x8_S8_d0 (u := S_) Facts.h_S_ (ix1 s)
  have hset : (Finset.univ.filter fun p : Fin 256 => held I (ij p ((ix1 s : S8.Idx) 0)) = 1#1) = Finset.univ.filter fun i : Fin 256 => own (expert I) i = s.val :=
    Finset.filter_congr fun p _ => by
      rw [← held_apply hN p s]
      have e : (ij p ((ix1 s : S8.Idx) 0) : S256x8.Idx) = ix2 p s := by
        funext b
        match b with
        | ⟨0, _⟩ => rfl
        | ⟨1, _⟩ => rfl
      rw [e]
  rw [hset] at hcount
  have hle := Finset.card_le_univ (Finset.univ.filter fun i : Fin 256 => own (expert I) i = s.val)
  rw [Fintype.card_fin] at hle
  rw [sle_iff_toNat (by rw [hcount]; omega) (by decide), hcount] at hs
  exact hs

/-- So every token's number among its owner's is below sixty-four. -/
theorem rank_of_routed (hN : Named I (expert I)) (h : (fn (F := Ideal) A B I C).2 = fun _ => 1#1) (i : Fin 256) :
    rank (own (expert I)) (own (expert I) i) i < 64 := by
  have h16 := (hN i).2
  exact lt_of_lt_of_le (rank_lt _ rfl) (count_of_routed hN h ⟨own (expert I) i, by show expert I i / 2 < 8; omega⟩)

end Cert.Dispatch

end
-- ==== Proof.Reference.lean ====
/-
The reference's result over the extended reals, entry by entry: a token's row times the matrix its word names.
-/
module

public import proofs.«01_k».proof.Proof.Gen.ReferenceIdeal
public import Idealize.ShloMosaic.Lib.StableHlo.Predicate
public import Idealize.ShloMosaic.Lib.Pointwise

@[expose] public section

noncomputable section

namespace Cert.Dispatch

open Cert.ReferenceIdeal Idealize.ShloMosaic

/-- How the reference gathers. -/
abbrev G₀ : GatherDims S16x128x256 S256x1 S256x128x256 := gather_S16x128x256_S256x1_S256x128x256_12_0_n_n_0_1_1128256

/-- The words the reference gathers by: a negative one counts from the end. -/
def wrapped (I : IVec S256x1 32) : IVec S256x1 32 :=
  broadcastInDim S256x1 ![0] Facts₀.bcast_S256_S256x1_0
    (select (cmpi .slt (shapeCast _ I Facts₀.shapeCasts_S256x1_S256) (broadcastInDim S256 ![] Facts₀.bcast_S_S256 (constantI S_ 32 0#32)))
      (addi (shapeCast _ I Facts₀.shapeCasts_S256x1_S256) (broadcastInDim S256 ![] Facts₀.bcast_S_S256 (constantI S_ 32 16#32)))
      (shapeCast _ I Facts₀.shapeCasts_S256x1_S256))

/-- A word below sixteen is not negative. -/
theorem wrap_word : ∀ t : Fin 16, Scalar.select (IntOp.cmpi .slt (BitVec.ofNat 32 t.val) 0#32) (IntOp.addi (BitVec.ofNat 32 t.val) 16#32) (BitVec.ofNat 32 t.val)
    = BitVec.ofNat 32 t.val := by decide +kernel

theorem wrapped_apply (I : IVec S256x1 32) (i : Fin 256) (t : Fin 16) (h : I (ix2 i 0) = BitVec.ofNat 32 t.val) :
    wrapped I (ix2 i 0) = BitVec.ofNat 32 t.val := by
  pointwise [wrapped]
  rw [h]
  exact wrap_word t

/-- The gather at one entry: row `i` is the matrix its word names. -/
theorem gather_apply (W : S16x128x256.Idx → EReal) (J : IVec S256x1 32) (i : Fin 256) (d : Fin 128) (e : Fin 256) (t : Fin 16)
    (h : J (ix2 i 0) = BitVec.ofNat 32 t.val) :
    Host.gather G₀ W J (ix3 i d e) = W (ix3 t d e) := by
  have hw : ∀ t : Fin 16, min (BitVec.ofNat 32 t.val).toInt.toNat 15 = t.val := by decide
  unfold Host.gather
  refine congrArg W (funext fun a => Fin.ext ?_)
  show G₀.start (ix3 i d e) J a + G₀.batchCoord (ix3 i d e) a + G₀.offCoord (ix3 i d e) a = _
  rw [GatherDims.batchCoord_eq_zero _ _ _ List.not_mem_nil]
  have cases3 : ∀ a : Fin 3, a = 0 ∨ a = 1 ∨ a = 2 := by decide
  rcases cases3 a with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ G₀.startIndexMap from List.mem_singleton.mpr rfl)]
    have hsi : G₀.siIdx (ix3 i d e) ⟨List.idxOf (0 : Fin 3) G₀.startIndexMap, List.idxOf_lt_length_iff.2 (List.mem_singleton.mpr rfl)⟩ = ix2 i 0 := by
      funext b; refine Fin.ext ?_
      match b with
      | ⟨0, _⟩ => rfl
      | ⟨1, _⟩ => rfl
    rw [hsi, h]
    exact hw t
  · unfold GatherDims.start
    rw [dif_neg (show (1 : Fin 3) ∉ G₀.startIndexMap by decide)]
    unfold GatherDims.offCoord
    rw [dif_pos (show (1 : Fin 3) ∈ G₀.sKept by decide), Nat.zero_add]
    rfl
  · unfold GatherDims.start
    rw [dif_neg (show (2 : Fin 3) ∉ G₀.startIndexMap by decide)]
    unfold GatherDims.offCoord
    rw [dif_pos (show (2 : Fin 3) ∈ G₀.sKept by decide), Nat.zero_add]
    rfl

/-- One entry of the reference's result. -/
theorem reference_apply (X : FVec Ideal S256x128 .f32) (I : IVec S256x1 32) (W : FVec Ideal S16x128x256 .f32) (i e : Fin 256) (t : Fin 16)
    (h : I (ix2 i 0) = BitVec.ofNat 32 t.val) :
    Host.dotGeneral (F := Ideal) (φ₁ := .f32) (φ₂ := .f32) dot_S256x128_S256x128x256_S256x256_1_1_n_2_0_0 none X (Host.gather G₀ W (wrapped I)) (ix2 i e)
      = ∑ d : Fin 128, X (ix2 i d) * W (ix3 t d e) := by
  pointwise []
  exact Finset.sum_congr rfl fun d _ => by rw [gather_apply W _ i d e t (wrapped_apply I i t h)]

end Cert.Dispatch

end
-- ==== Proof.Algebraic.lean ====
/-
The algebraic claim: on every device the kernel's result is the reference's.
-/
module

public import proofs.«01_k».proof.Proof.Frames
public import proofs.«01_k».proof.Proof.Value
public import proofs.«01_k».proof.Proof.Routed
public import proofs.«01_k».proof.Proof.Reference

@[expose] public section

noncomputable section

namespace Cert.Dispatch

open Idealize.ShloMosaic Idealize.ShloMosaic.TcCoe Idealize.SL.Sem

/-- Two results with the same entries are one. -/
theorem result_ext {f g : (⟨2, ![256, 256]⟩ : Shape).Idx → EReal} (h : ∀ i e : Fin 256, f (ix2 i e) = g (ix2 i e)) : f = g := by
  funext j
  rw [eq_ix2 j]
  exact h _ _

/-- Over the extended reals, when the words route within capacity, every device ends with the reference's result. -/
theorem algebraic : Cert.algebraic_KernelIdeal_ReferenceIdeal_pre_routed_KernelIdeal := fun m g m' g' hpre hin => by
  have hI : ∀ c, _ := fun c => (hin c).2.2.1
  have named := named_of_routed (hpre 0).1
  have small := rank_of_routed named (hpre 0).2
  rw [hI 0] at named small
  refine ⟨_, (θ_run Cert.KernelIdeal.defs _ _).mono (fun r h c => ⟨?_, args_kept m h.1 c⟩) (run_main (F := Ideal) m g),
    (θ_run Cert.ReferenceIdeal.defs _ _).mono (fun r h => h 0) (Cert.ReferenceIdeal.Value.run (F := Ideal) m' g')⟩
  refine ((h.1 c).1 (3 : Fin 4)).trans ((final_o m c).trans ?_)
  refine result_ext fun i e => ?_
  refine (out_apply m named small _ _ (fun c => (hin c).1) hI (fun c => (hin c).2.2.2) c i e).trans ?_
  exact (reference_apply _ _ _ i e ⟨expert _ i, (named i).2⟩ (named i).1).symm

end Cert.Dispatch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, the ideal kernel's sameness, and the algebraic claim. -/
theorem claim : Cert.Claim :=
  ⟨Cert.Kernel.Gen.facts, Cert.KernelIdeal.Gen.facts, Cert.ReferenceIdeal.Gen.facts, Dispatch.preFacts, Dispatch.preFactsRef,
    Dispatch.frame_kernel, Dispatch.frame_ideal, Dispatch.frame_ideal_pre, Dispatch.frame_ref, Dispatch.frame_ref_pre, trivial, Dispatch.algebraic⟩

end Cert.Proof

end
